-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_masks [hPre_labels_and_masks : Cert.Pre_labels_and_masks.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_masks [hPre_labels_and_masks : Cert.Pre_labels_and_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_and_masks [hKernelIdeal : Cert.KernelIdeal.Facts] [hPre_labels_and_masks : Cert.Pre_labels_and_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_and_masks [hReferenceIdeal : Cert.ReferenceIdeal.Facts] [hPre_labels_and_masks : Cert.Pre_labels_and_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_labels_and_masks [hKernelIdeal : Cert.KernelIdeal.Facts] [hReferenceIdeal : Cert.ReferenceIdeal.Facts] [hPre_labels_and_masks : Cert.Pre_labels_and_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_v257) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_and_masks : Cert.Pre_labels_and_masks.Facts),
    quiescent_Kernel (hKernel := hKernel)
    ∧ quiescent_KernelIdeal (hKernelIdeal := hKernelIdeal)
    ∧ quiescent_KernelIdeal_pre_labels_and_masks (hKernelIdeal := hKernelIdeal) (hPre_labels_and_masks := hPre_labels_and_masks)
    ∧ quiescent_ReferenceIdeal (hReferenceIdeal := hReferenceIdeal)
    ∧ quiescent_ReferenceIdeal_pre_labels_and_masks (hReferenceIdeal := hReferenceIdeal) (hPre_labels_and_masks := hPre_labels_and_masks)
    ∧ preserves_Kernel_KernelIdeal
    ∧ algebraic_KernelIdeal_ReferenceIdeal_pre_labels_and_masks (hKernelIdeal := hKernelIdeal) (hReferenceIdeal := hReferenceIdeal) (hPre_labels_and_masks := hPre_labels_and_masks)
-- ==== Pre_labels_and_masks.lean ====
abbrev S2x5000x78 : Shape := ⟨3, ![2, 5000, 78]⟩
abbrev S2x24x78 : Shape := ⟨3, ![2, 24, 78]⟩
abbrev S2x24 : Shape := ⟨2, ![2, 24]⟩
abbrev S_ : Shape := ⟨0, ![]⟩
abbrev S2x24x1 : Shape := ⟨3, ![2, 24, 1]⟩

class Facts : Prop where
  slices_S2x24x78_S2x24x1_0_0_1 : S2x24x78.Slices ![0, 0, 1] S2x24x1
  shapeCasts_S2x24x1_S2x24 : S2x24x1.ShapeCasts S2x24
  bcast_S_S2x24 : S_.BroadcastsInDim S2x24 (![] : Fin 0 → Fin S2x24.rank)

variable [Facts]

def fn {F : FTy → Type} [FloatOps F] (main_arg0 : FVec F S2x5000x78 .f32) (main_arg1 : FVec F S2x24x78 .f32) (main_arg2 : FVec F S2x24 .f32) (main_arg3 : IVec S_ 32) (main_arg4 : IVec S_ 32) : IVec S2x24 1 :=
  let main_v0 : FVec F S2x24x1 .f32 := (extractStridedSlice S2x24x1 ![0, 0, 1] · slices_S2x24x78_S2x24x1_0_0_1) main_arg1
  let main_v1 : FVec F S2x24 .f32 := shapeCast S2x24 main_v0 shapeCasts_S2x24x1_S2x24
  let main_cst : FVec F S_ .f32 := constant S_ .f32 0x00000000#32
  let main_v2 : FVec F S2x24 .f32 := broadcastInDim S2x24 ![] bcast_S_S2x24 main_cst
  let main_v3 : IVec S2x24 1 := cmpf .oeq main_arg2 main_v2
  let main_cst_0 : FVec F S_ .f32 := constant S_ .f32 0x00000000#32
  let main_v4 : FVec F S2x24 .f32 := broadcastInDim S2x24 ![] bcast_S_S2x24 main_cst_0
  let main_v5 : IVec S2x24 1 := cmpf .ogt main_arg2 main_v4
  let main_cst_1 : FVec F S_ .f32 := constant S_ .f32 0xC0000000#32
  let main_v6 : FVec F S2x24 .f32 := broadcastInDim S2x24 ![] bcast_S_S2x24 main_cst_1
  let main_v7 : IVec S2x24 1 := cmpf .ogt main_v1 main_v6
  let main_v8 : IVec S2x24 1 := andi main_v5 main_v7
  let main_cst_2 : FVec F S_ .f32 := constant S_ .f32 0x40000000#32
  let main_v9 : FVec F S2x24 .f32 := broadcastInDim S2x24 ![] bcast_S_S2x24 main_cst_2
  let main_v10 : IVec S2x24 1 := cmpf .olt main_v1 main_v9
  let main_v11 : IVec S2x24 1 := andi main_v8 main_v10
  let main_v12 : IVec S2x24 1 := ori main_v3 main_v11
  main_v12
-- ==== Kernel.lean ====
abbrev S2x5000x78 : Shape := ⟨3, ![2, 5000, 78]⟩
abbrev S2x24x78 : Shape := ⟨3, ![2, 24, 78]⟩
abbrev S2x24 : Shape := ⟨2, ![2, 24]⟩
abbrev S_ : Shape := ⟨0, ![]⟩
abbrev S1 : Shape := ⟨1, ![1]⟩
abbrev S3 : Shape := ⟨1, ![3]⟩
abbrev S2x78x5000 : Shape := ⟨3, ![2, 78, 5000]⟩
abbrev S2x78x24 : Shape := ⟨3, ![2, 78, 24]⟩
abbrev S2x24x1 : Shape := ⟨3, ![2, 24, 1]⟩
abbrev S2x1x5000 : Shape := ⟨3, ![2, 1, 5000]⟩
abbrev S1x78x5000 : Shape := ⟨3, ![1, 78, 5000]⟩
abbrev S1x24x78 : Shape := ⟨3, ![1, 24, 78]⟩
abbrev S1x78x24 : Shape := ⟨3, ![1, 78, 24]⟩
abbrev S1x24x1 : Shape := ⟨3, ![1, 24, 1]⟩
abbrev S1x1x5000 : Shape := ⟨3, ![1, 1, 5000]⟩
abbrev S1x72x5000 : Shape := ⟨3, ![1, 72, 5000]⟩
abbrev S72x5000 : Shape := ⟨2, ![72, 5000]⟩
abbrev S1x5000 : Shape := ⟨2, ![1, 5000]⟩
abbrev S24x1 : Shape := ⟨2, ![24, 1]⟩
abbrev S1x24x72 : Shape := ⟨3, ![1, 24, 72]⟩
abbrev S24x72 : Shape := ⟨2, ![24, 72]⟩
abbrev S24 : Shape := ⟨1, ![24]⟩
abbrev S1x72x24 : Shape := ⟨3, ![1, 72, 24]⟩
abbrev S72x24 : Shape := ⟨2, ![72, 24]⟩
abbrev S72x1 : Shape := ⟨2, ![72, 1]⟩
abbrev S5000 : Shape := ⟨1, ![5000]⟩
abbrev S24x5000 : Shape := ⟨2, ![24, 5000]⟩
abbrev S1x24x5000 : Shape := ⟨3, ![1, 24, 5000]⟩
abbrev S1x1x1 : Shape := ⟨3, ![1, 1, 1]⟩
abbrev S2x5000 : Shape := ⟨2, ![2, 5000]⟩

abbrev nBuf : Space → Nat
  | .hbm => 23
  | .vmem => 10
  | .smem => 1
  | _ => 0

abbrev bufTy : (tb : Table) → Fin (tcTables nBuf tb) → BufTy
  | .hbm, ⟨0, _⟩ => ⟨S2x5000x78, .f32⟩
  | .hbm, ⟨1, _⟩ => ⟨S2x24x78, .f32⟩
  | .hbm, ⟨2, _⟩ => ⟨S2x24, .f32⟩
  | .hbm, ⟨3, _⟩ => ⟨S_, .i32⟩
  | .hbm, ⟨4, _⟩ => ⟨S_, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S3, .f32⟩
  | .hbm, ⟨15, _⟩ => ⟨S2x78x5000, .f32⟩
  | .hbm, ⟨16, _⟩ => ⟨S2x78x24, .f32⟩
  | .hbm, ⟨17, _⟩ => ⟨S2x24x1, .f32⟩
  | .hbm, ⟨18, _⟩ => ⟨S2x1x5000, .i32⟩
  | .hbm, ⟨19, _⟩ => ⟨S2x5000, .i32⟩
  | .hbm, ⟨20, _⟩ => ⟨S_, .i32⟩
  | .hbm, ⟨21, _⟩ => ⟨S2x5000, .i32⟩
  | .hbm, ⟨22, _⟩ => ⟨S2x5000, .i1⟩
  | .local _ .vmem, ⟨0, _⟩ => ⟨S1x78x5000, .f32⟩
  | .local _ .vmem, ⟨1, _⟩ => ⟨S1x78x5000, .f32⟩
  | .local _ .vmem, ⟨2, _⟩ => ⟨S1x24x78, .f32⟩
  | .local _ .vmem, ⟨3, _⟩ => ⟨S1x24x78, .f32⟩
  | .local _ .vmem, ⟨4, _⟩ => ⟨S1x78x24, .f32⟩
  | .local _ .vmem, ⟨5, _⟩ => ⟨S1x78x24, .f32⟩
  | .local _ .vmem, ⟨6, _⟩ => ⟨S1x24x1, .f32⟩
  | .local _ .vmem, ⟨7, _⟩ => ⟨S1x24x1, .f32⟩
  | .local _ .vmem, ⟨8, _⟩ => ⟨S1x1x5000, .i32⟩
  | .local _ .vmem, ⟨9, _⟩ => ⟨S1x1x5000, .i32⟩
  | .local _ .smem, ⟨0, _⟩ => ⟨S3, .f32⟩
  | _, _ => ⟨S2x5000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x78x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x78 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x78x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x24x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x5000 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x5000x78 : Shape := ⟨3, ![2, 5000, 78]⟩
abbrev S2x24x78 : Shape := ⟨3, ![2, 24, 78]⟩
abbrev S2x24 : Shape := ⟨2, ![2, 24]⟩
abbrev S_ : Shape := ⟨0, ![]⟩
abbrev S2x5000x72 : Shape := ⟨3, ![2, 5000, 72]⟩
abbrev S2x24x72 : Shape := ⟨3, ![2, 24, 72]⟩
abbrev S2x5000x1 : Shape := ⟨3, ![2, 5000, 1]⟩
abbrev S2x5000 : Shape := ⟨2, ![2, 5000]⟩
abbrev S2x24x1 : Shape := ⟨3, ![2, 24, 1]⟩
abbrev S2x1x24x72 : Shape := ⟨4, ![2, 1, 24, 72]⟩
abbrev S2x1x24 : Shape := ⟨3, ![2, 1, 24]⟩
abbrev S2x5000x1x72 : Shape := ⟨4, ![2, 5000, 1, 72]⟩
abbrev S2x5000x24x72 : Shape := ⟨4, ![2, 5000, 24, 72]⟩
abbrev S2x5000x24 : Shape := ⟨3, ![2, 5000, 24]⟩
abbrev S2 : Shape := ⟨1, ![2]⟩
abbrev S2x1x1 : Shape := ⟨3, ![2, 1, 1]⟩
abbrev S2x5000x2 : Shape := ⟨3, ![2, 5000, 2]⟩
abbrev S2x24x2 : Shape := ⟨3, ![2, 24, 2]⟩
abbrev S2x5000x1x2 : Shape := ⟨4, ![2, 5000, 1, 2]⟩
abbrev S2x1x24x2 : Shape := ⟨4, ![2, 1, 24, 2]⟩
abbrev S2x5000x24x2 : Shape := ⟨4, ![2, 5000, 24, 2]⟩
abbrev S2x5000x24x1 : Shape := ⟨4, ![2, 5000, 24, 1]⟩
abbrev S1 : Shape := ⟨1, ![1]⟩
abbrev S1x1x1x1 : Shape := ⟨4, ![1, 1, 1, 1]⟩
abbrev S2x24x5000 : Shape := ⟨3, ![2, 24, 5000]⟩
abbrev S2x24x4 : Shape := ⟨3, ![2, 24, 4]⟩
abbrev S4 : Shape := ⟨1, ![4]⟩
abbrev S1x1x4 : Shape := ⟨3, ![1, 1, 4]⟩
abbrev S2x24x4x1 : Shape := ⟨4, ![2, 24, 4, 1]⟩
abbrev S1x1x1x5000 : Shape := ⟨4, ![1, 1, 1, 5000]⟩
abbrev S2x24x4x5000 : Shape := ⟨4, ![2, 24, 4, 5000]⟩
abbrev S1x1x24 : Shape := ⟨3, ![1, 1, 24]⟩

abbrev nBuf : Space → Nat
  | .hbm => 440
  | .vmem => 0
  | .smem => 0
  | _ => 0

abbrev hbmTy0_0 (i : Nat) : BufTy := match i % 128 with
  | 0 => ⟨S2x5000x78, .f32⟩
  | 1 => ⟨S2x24x78, .f32⟩
  | 2 => ⟨S2x24, .f32⟩
  | 3 => ⟨S_, .i32⟩
  | 4 => ⟨S_, .i32⟩
  | 5 => ⟨S2x5000x72, .f32⟩
  | 6 => ⟨S_, .f32⟩
  | 7 => ⟨S_, .f32⟩
  | 8 => ⟨S_, .f32⟩
  | 9 => ⟨S_, .f32⟩
  | 10 => ⟨S2x5000x72, .f32⟩
  | 11 => ⟨S2x5000x72, .f32⟩
  | 12 => ⟨S2x24x72, .f32⟩
  | 13 => ⟨S_, .f32⟩
  | 14 => ⟨S_, .f32⟩
  | 15 => ⟨S_, .f32⟩
  | 16 => ⟨S_, .f32⟩
  | 17 => ⟨S2x24x72, .f32⟩
  | 18 => ⟨S2x24x72, .f32⟩
  | 19 => ⟨S2x5000x1, .f32⟩
  | 20 => ⟨S2x5000, .f32⟩
  | 21 => ⟨S_, .f32⟩
  | 22 => ⟨S_, .f32⟩
  | 23 => ⟨S_, .f32⟩
  | 24 => ⟨S_, .f32⟩
  | 25 => ⟨S2x5000, .f32⟩
  | 26 => ⟨S2x5000, .f32⟩
  | 27 => ⟨S2x5000x1, .f32⟩
  | 28 => ⟨S2x5000, .f32⟩
  | 29 => ⟨S_, .f32⟩
  | 30 => ⟨S_, .f32⟩
  | 31 => ⟨S_, .f32⟩
  | 32 => ⟨S_, .f32⟩
  | 33 => ⟨S2x5000, .f32⟩
  | 34 => ⟨S2x5000, .f32⟩
  | 35 => ⟨S2x24x1, .f32⟩
  | 36 => ⟨S2x24, .f32⟩
  | 37 => ⟨S_, .f32⟩
  | 38 => ⟨S_, .f32⟩
  | 39 => ⟨S_, .f32⟩
  | 40 => ⟨S_, .f32⟩
  | 41 => ⟨S2x24, .f32⟩
  | 42 => ⟨S2x24, .f32⟩
  | 43 => ⟨S2x24x1, .f32⟩
  | 44 => ⟨S2x24, .f32⟩
  | 45 => ⟨S_, .f32⟩
  | 46 => ⟨S_, .f32⟩
  | 47 => ⟨S_, .f32⟩
  | 48 => ⟨S_, .f32⟩
  | 49 => ⟨S2x24, .f32⟩
  | 50 => ⟨S2x24, .f32⟩
  | 51 => ⟨S_, .f32⟩
  | 52 => ⟨S2x24x72, .f32⟩
  | 53 => ⟨S2x24x72, .i1⟩
  | 54 => ⟨S_, .f32⟩
  | 55 => ⟨S2x24x72, .f32⟩
  | 56 => ⟨S2x24x72, .i1⟩
  | 57 => ⟨S2x24x72, .i1⟩
  | 58 => ⟨S2x1x24x72, .i1⟩
  | 59 => ⟨S2x1x24x72, .i32⟩
  | 60 => ⟨S_, .i32⟩
  | 61 => ⟨S2x1x24, .i32⟩
  | 62 => ⟨S2x1x24, .f32⟩
  | 63 => ⟨S_, .f32⟩
  | 64 => ⟨S_, .f32⟩
  | 65 => ⟨S2x1x24, .f32⟩
  | 66 => ⟨S2x1x24, .f32⟩
  | 67 => ⟨S2x5000x1x72, .f32⟩
  | 68 => ⟨S2x1x24x72, .f32⟩
  | 69 => ⟨S2x5000x24x72, .f32⟩
  | 70 => ⟨S2x5000x24x72, .f32⟩
  | 71 => ⟨S2x5000x24x72, .f32⟩
  | 72 => ⟨S2x5000x24x72, .f32⟩
  | 73 => ⟨S2x1x24x72, .f32⟩
  | 74 => ⟨S2x5000x24x72, .f32⟩
  | 75 => ⟨S2x5000x24x72, .f32⟩
  | 76 => ⟨S_, .f32⟩
  | 77 => ⟨S2x5000x24, .f32⟩
  | 78 => ⟨S2x5000x24, .f32⟩
  | 79 => ⟨S2x5000x24, .f32⟩
  | 80 => ⟨S_, .f32⟩
  | 81 => ⟨S2, .f32⟩
  | 82 => ⟨S2x1x1, .f32⟩
  | 83 => ⟨S_, .f32⟩
  | 84 => ⟨S_, .f32⟩
  | 85 => ⟨S2x1x1, .f32⟩
  | 86 => ⟨S2x1x1, .f32⟩
  | 87 => ⟨S2x5000x24, .f32⟩
  | 88 => ⟨S2x5000x24, .f32⟩
  | 89 => ⟨S_, .f32⟩
  | 90 => ⟨S2x5000x24, .f32⟩
  | 91 => ⟨S2x5000x24, .f32⟩
  | 92 => ⟨S_, .f32⟩
  | 93 => ⟨S2x5000x24, .f32⟩
  | 94 => ⟨S2x5000x24, .f32⟩
  | 95 => ⟨S2x5000x1, .f32⟩
  | 96 => ⟨S2x5000x1, .f32⟩
  | 97 => ⟨S2x5000x2, .f32⟩
  | 98 => ⟨S2x24x1, .f32⟩
  | 99 => ⟨S2x24x1, .f32⟩
  | 100 => ⟨S2x24x2, .f32⟩
  | 101 => ⟨S2x5000x1x2, .f32⟩
  | 102 => ⟨S2x1x24x2, .f32⟩
  | 103 => ⟨S2x5000x24x2, .f32⟩
  | 104 => ⟨S2x5000x24x2, .f32⟩
  | 105 => ⟨S2x5000x24x2, .f32⟩
  | 106 => ⟨S2x5000x24x2, .f32⟩
  | 107 => ⟨S_, .f32⟩
  | 108 => ⟨S2x5000x24, .f32⟩
  | 109 => ⟨S_, .f32⟩
  | 110 => ⟨S2x5000x24, .f32⟩
  | 111 => ⟨S2x5000x24, .f32⟩
  | 112 => ⟨S2x5000x24, .f32⟩
  | 113 => ⟨S_, .f32⟩
  | 114 => ⟨S2, .f32⟩
  | 115 => ⟨S2x1x1, .f32⟩
  | 116 => ⟨S_, .f32⟩
  | 117 => ⟨S_, .f32⟩
  | 118 => ⟨S2x1x1, .f32⟩
  | 119 => ⟨S2x1x1, .f32⟩
  | 120 => ⟨S2x5000x24, .f32⟩
  | 121 => ⟨S2x5000x24, .f32⟩
  | 122 => ⟨S_, .f32⟩
  | 123 => ⟨S2x5000x24, .f32⟩
  | 124 => ⟨S2x5000x24, .f32⟩
  | 125 => ⟨S_, .f32⟩
  | 126 => ⟨S2x5000x24, .f32⟩
  | 127 => ⟨S2x5000x24, .f32⟩
  | _ => ⟨S2x5000x78, .f32⟩

abbrev hbmTy0_1 (i : Nat) : BufTy := match i % 128 with
  | 0 => ⟨S2x5000x1, .f32⟩
  | 1 => ⟨S2x5000, .f32⟩
  | 2 => ⟨S2x5000x1, .f32⟩
  | 3 => ⟨S2x24x1, .f32⟩
  | 4 => ⟨S2x24, .f32⟩
  | 5 => ⟨S2x1x24, .f32⟩
  | 6 => ⟨S2x5000x24, .f32⟩
  | 7 => ⟨S2x5000x24, .f32⟩
  | 8 => ⟨S2x5000x24, .f32⟩
  | 9 => ⟨S2x5000x24, .f32⟩
  | 10 => ⟨S_, .f32⟩
  | 11 => ⟨S2x5000x24, .f32⟩
  | 12 => ⟨S2x5000x24, .f32⟩
  | 13 => ⟨S_, .f32⟩
  | 14 => ⟨S2, .f32⟩
  | 15 => ⟨S2x1x1, .f32⟩
  | 16 => ⟨S_, .f32⟩
  | 17 => ⟨S_, .f32⟩
  | 18 => ⟨S2x1x1, .f32⟩
  | 19 => ⟨S2x1x1, .f32⟩
  | 20 => ⟨S2x5000x24, .f32⟩
  | 21 => ⟨S2x5000x24, .f32⟩
  | 22 => ⟨S_, .f32⟩
  | 23 => ⟨S2x5000x24, .f32⟩
  | 24 => ⟨S2x5000x24, .f32⟩
  | 25 => ⟨S_, .f32⟩
  | 26 => ⟨S2x5000x24, .f32⟩
  | 27 => ⟨S2x5000x24, .f32⟩
  | 28 => ⟨S2x24x1, .f32⟩
  | 29 => ⟨S2x24, .f32⟩
  | 30 => ⟨S2x24, .i32⟩
  | 31 => ⟨S2x5000x2, .f32⟩
  | 32 => ⟨S2x5000x2, .f32⟩
  | 33 => ⟨S2x5000x2, .f32⟩
  | 34 => ⟨S_, .f32⟩
  | 35 => ⟨S2x5000x2, .f32⟩
  | 36 => ⟨S2x5000x2, .f32⟩
  | 37 => ⟨S_, .f32⟩
  | 38 => ⟨S2x5000x2, .f32⟩
  | 39 => ⟨S2x5000x2, .f32⟩
  | 40 => ⟨S_, .f32⟩
  | 41 => ⟨S2x5000x2, .f32⟩
  | 42 => ⟨S2x5000x2, .f32⟩
  | 43 => ⟨S_, .f32⟩
  | 44 => ⟨S2x5000x2, .f32⟩
  | 45 => ⟨S2x5000x2, .f32⟩
  | 46 => ⟨S2x5000x2, .f32⟩
  | 47 => ⟨S2x5000x2, .f32⟩
  | 48 => ⟨S_, .f32⟩
  | 49 => ⟨S2x5000x2, .f32⟩
  | 50 => ⟨S2x5000x2, .f32⟩
  | 51 => ⟨S_, .f32⟩
  | 52 => ⟨S2x5000x2, .f32⟩
  | 53 => ⟨S2x5000x2, .f32⟩
  | 54 => ⟨S2x5000x2, .f32⟩
  | 55 => ⟨S_, .f32⟩
  | 56 => ⟨S2x5000x2, .f32⟩
  | 57 => ⟨S2x5000x2, .f32⟩
  | 58 => ⟨S2x5000x2, .f32⟩
  | 59 => ⟨S2x5000x2, .f32⟩
  | 60 => ⟨S_, .f32⟩
  | 61 => ⟨S2x5000x2, .f32⟩
  | 62 => ⟨S2x5000x2, .f32⟩
  | 63 => ⟨S_, .f32⟩
  | 64 => ⟨S2x5000x2, .f32⟩
  | 65 => ⟨S2x5000x2, .f32⟩
  | 66 => ⟨S_, .f32⟩
  | 67 => ⟨S2x5000x2, .f32⟩
  | 68 => ⟨S2x5000x2, .f32⟩
  | 69 => ⟨S2x5000x2, .f32⟩
  | 70 => ⟨S2x1x24, .i32⟩
  | 71 => ⟨S2x5000x24, .i32⟩
  | 72 => ⟨S_, .i32⟩
  | 73 => ⟨S2x5000x24, .i32⟩
  | 74 => ⟨S2x5000x24, .i1⟩
  | 75 => ⟨S_, .i32⟩
  | 76 => ⟨S2x5000x24, .i32⟩
  | 77 => ⟨S2x5000x24, .i32⟩
  | 78 => ⟨S2x5000x24, .i32⟩
  | 79 => ⟨S2x5000x24x1, .i32⟩
  | 80 => ⟨S1, .i32⟩
  | 81 => ⟨S_, .i32⟩
  | 82 => ⟨S2x5000x24x1, .i32⟩
  | 83 => ⟨S2x5000x24x1, .i1⟩
  | 84 => ⟨S1x1x1x1, .i32⟩
  | 85 => ⟨S2x5000x24x1, .i32⟩
  | 86 => ⟨S2x5000x24x1, .i1⟩
  | 87 => ⟨S2x5000x24x1, .i1⟩
  | 88 => ⟨S_, .i1⟩
  | 89 => ⟨S2x5000x24, .i1⟩
  | 90 => ⟨S2x5000x24, .f32⟩
  | 91 => ⟨S_, .f32⟩
  | 92 => ⟨S2x5000x24, .f32⟩
  | 93 => ⟨S2x5000x24, .f32⟩
  | 94 => ⟨S_, .i32⟩
  | 95 => ⟨S2x5000x24, .i32⟩
  | 96 => ⟨S2x5000x24, .i1⟩
  | 97 => ⟨S_, .i32⟩
  | 98 => ⟨S2x5000x24, .i32⟩
  | 99 => ⟨S2x5000x24, .i32⟩
  | 100 => ⟨S2x5000x24, .i32⟩
  | 101 => ⟨S2x5000x24x1, .i32⟩
  | 102 => ⟨S1, .i32⟩
  | 103 => ⟨S_, .i32⟩
  | 104 => ⟨S2x5000x24x1, .i32⟩
  | 105 => ⟨S2x5000x24x1, .i1⟩
  | 106 => ⟨S1x1x1x1, .i32⟩
  | 107 => ⟨S2x5000x24x1, .i32⟩
  | 108 => ⟨S2x5000x24x1, .i1⟩
  | 109 => ⟨S2x5000x24x1, .i1⟩
  | 110 => ⟨S_, .i1⟩
  | 111 => ⟨S2x5000x24, .i1⟩
  | 112 => ⟨S2x5000x24, .f32⟩
  | 113 => ⟨S_, .f32⟩
  | 114 => ⟨S2x5000x24, .f32⟩
  | 115 => ⟨S2x5000x24, .f32⟩
  | 116 => ⟨S2x5000x24, .f32⟩
  | 117 => ⟨S_, .f32⟩
  | 118 => ⟨S_, .f32⟩
  | 119 => ⟨S2x5000x24, .f32⟩
  | 120 => ⟨S2x5000x24, .f32⟩
  | 121 => ⟨S_, .f32⟩
  | 122 => ⟨S_, .f32⟩
  | 123 => ⟨S2x5000x24, .f32⟩
  | 124 => ⟨S2x5000x24, .f32⟩
  | 125 => ⟨S2x5000x24, .f32⟩
  | 126 => ⟨S_, .f32⟩
  | 127 => ⟨S_, .f32⟩
  | _ => ⟨S2x5000x78, .f32⟩

abbrev hbmTy0_2 (i : Nat) : BufTy := match i % 128 with
  | 0 => ⟨S2x5000x24, .f32⟩
  | 1 => ⟨S2x5000x24, .f32⟩
  | 2 => ⟨S2x5000x24, .f32⟩
  | 3 => ⟨S2x5000x24, .f32⟩
  | 4 => ⟨S2x5000x24, .f32⟩
  | 5 => ⟨S_, .f32⟩
  | 6 => ⟨S2x5000x24, .f32⟩
  | 7 => ⟨S2x5000x24, .f32⟩
  | 8 => ⟨S_, .f32⟩
  | 9 => ⟨S2x5000x24, .f32⟩
  | 10 => ⟨S2x5000x24, .f32⟩
  | 11 => ⟨S2x5000x24, .f32⟩
  | 12 => ⟨S_, .f32⟩
  | 13 => ⟨S2x24, .f32⟩
  | 14 => ⟨S2x24, .i1⟩
  | 15 => ⟨S2x24, .i1⟩
  | 16 => ⟨S2x1x24, .i1⟩
  | 17 => ⟨S2x5000x24, .i1⟩
  | 18 => ⟨S_, .f32⟩
  | 19 => ⟨S_, .f32⟩
  | 20 => ⟨S2x5000x24, .f32⟩
  | 21 => ⟨S2x5000x24, .f32⟩
  | 22 => ⟨S_, .f32⟩
  | 23 => ⟨S2x5000x72, .f32⟩
  | 24 => ⟨S2x5000x72, .f32⟩
  | 25 => ⟨S_, .f32⟩
  | 26 => ⟨S2x5000x72, .f32⟩
  | 27 => ⟨S2x5000x72, .f32⟩
  | 28 => ⟨S_, .f32⟩
  | 29 => ⟨S2x24x72, .f32⟩
  | 30 => ⟨S2x24x72, .f32⟩
  | 31 => ⟨S_, .f32⟩
  | 32 => ⟨S2x24x72, .f32⟩
  | 33 => ⟨S2x24x72, .f32⟩
  | 34 => ⟨S_, .f32⟩
  | 35 => ⟨S2x24x72, .f32⟩
  | 36 => ⟨S2x24x72, .i1⟩
  | 37 => ⟨S_, .f32⟩
  | 38 => ⟨S2x24x72, .f32⟩
  | 39 => ⟨S2x24x72, .i1⟩
  | 40 => ⟨S2x24x72, .i1⟩
  | 41 => ⟨S2x5000x1x72, .f32⟩
  | 42 => ⟨S2x1x24x72, .f32⟩
  | 43 => ⟨S2x5000x24x72, .f32⟩
  | 44 => ⟨S2x5000x24x72, .f32⟩
  | 45 => ⟨S2x5000x24x72, .f32⟩
  | 46 => ⟨S2x5000x1x72, .f32⟩
  | 47 => ⟨S2x1x24x72, .f32⟩
  | 48 => ⟨S2x5000x24x72, .f32⟩
  | 49 => ⟨S2x5000x24x72, .f32⟩
  | 50 => ⟨S2x5000x24x72, .f32⟩
  | 51 => ⟨S2x5000x24x72, .f32⟩
  | 52 => ⟨S2x5000x1x72, .f32⟩
  | 53 => ⟨S2x1x24x72, .f32⟩
  | 54 => ⟨S2x5000x24x72, .f32⟩
  | 55 => ⟨S2x5000x24x72, .f32⟩
  | 56 => ⟨S2x5000x24x72, .f32⟩
  | 57 => ⟨S2x5000x1x72, .f32⟩
  | 58 => ⟨S2x1x24x72, .f32⟩
  | 59 => ⟨S2x5000x24x72, .f32⟩
  | 60 => ⟨S2x5000x24x72, .f32⟩
  | 61 => ⟨S2x5000x24x72, .f32⟩
  | 62 => ⟨S2x5000x24x72, .f32⟩
  | 63 => ⟨S2x1x24x72, .i1⟩
  | 64 => ⟨S_, .f32⟩
  | 65 => ⟨S_, .f32⟩
  | 66 => ⟨S2x5000x24x72, .i1⟩
  | 67 => ⟨S2x5000x24x72, .f32⟩
  | 68 => ⟨S2x5000x24x72, .f32⟩
  | 69 => ⟨S_, .f32⟩
  | 70 => ⟨S_, .f32⟩
  | 71 => ⟨S2x5000x24x72, .i1⟩
  | 72 => ⟨S2x5000x24x72, .f32⟩
  | 73 => ⟨S2x5000x24x72, .f32⟩
  | 74 => ⟨S_, .f32⟩
  | 75 => ⟨S2x5000x24, .f32⟩
  | 76 => ⟨S_, .f32⟩
  | 77 => ⟨S2x5000x24, .f32⟩
  | 78 => ⟨S_, .f32⟩
  | 79 => ⟨S2x5000x24, .f32⟩
  | 80 => ⟨S2x5000x24, .f32⟩
  | 81 => ⟨S2x5000x24, .f32⟩
  | 82 => ⟨S_, .f32⟩
  | 83 => ⟨S2x5000x24, .i1⟩
  | 84 => ⟨S_, .f32⟩
  | 85 => ⟨S2x5000x24, .f32⟩
  | 86 => ⟨S2x5000x24, .f32⟩
  | 87 => ⟨S_, .f32⟩
  | 88 => ⟨S2x5000x24, .f32⟩
  | 89 => ⟨S2x5000x24, .i1⟩
  | 90 => ⟨S_, .f32⟩
  | 91 => ⟨S2x5000x24, .f32⟩
  | 92 => ⟨S2x5000x24, .f32⟩
  | 93 => ⟨S_, .f32⟩
  | 94 => ⟨S2x5000x24, .f32⟩
  | 95 => ⟨S2x5000x24, .i1⟩
  | 96 => ⟨S_, .f32⟩
  | 97 => ⟨S2x5000x24, .f32⟩
  | 98 => ⟨S2x5000x24, .f32⟩
  | 99 => ⟨S_, .f32⟩
  | 100 => ⟨S_, .f32⟩
  | 101 => ⟨S2x5000x24, .f32⟩
  | 102 => ⟨S2x5000x24, .f32⟩
  | 103 => ⟨S2x24x5000, .f32⟩
  | 104 => ⟨S2x24x4, .f32⟩
  | 105 => ⟨S2x24x4, .i32⟩
  | 106 => ⟨S_, .f32⟩
  | 107 => ⟨S2x24, .f32⟩
  | 108 => ⟨S2x24, .i32⟩
  | 109 => ⟨S_, .i32⟩
  | 110 => ⟨S_, .i32⟩
  | 111 => ⟨S2x24, .i32⟩
  | 112 => ⟨S2x24, .i32⟩
  | 113 => ⟨S_, .f32⟩
  | 114 => ⟨S2x24, .f32⟩
  | 115 => ⟨S2x24, .i1⟩
  | 116 => ⟨S2x24, .i1⟩
  | 117 => ⟨S_, .i32⟩
  | 118 => ⟨S_, .i32⟩
  | 119 => ⟨S2x24, .i32⟩
  | 120 => ⟨S2x24, .i32⟩
  | 121 => ⟨S2x24x5000, .f32⟩
  | 122 => ⟨S2x24x5000, .f32⟩
  | 123 => ⟨S2x24x4, .f32⟩
  | 124 => ⟨S2x24x4, .i32⟩
  | 125 => ⟨S4, .i32⟩
  | 126 => ⟨S1x1x4, .i32⟩
  | 127 => ⟨S2x24x1, .i32⟩
  | _ => ⟨S2x5000x78, .f32⟩

abbrev hbmTy0_3 (i : Nat) : BufTy := match i % 128 with
  | 0 => ⟨S2x24x4, .i32⟩
  | 1 => ⟨S2x24x4, .i32⟩
  | 2 => ⟨S2x24x4, .i1⟩
  | 3 => ⟨S2x24x4, .f32⟩
  | 4 => ⟨S2x24x4x1, .i32⟩
  | 5 => ⟨S1x1x1x5000, .i32⟩
  | 6 => ⟨S2x24x4x5000, .i32⟩
  | 7 => ⟨S2x24x4x5000, .i32⟩
  | 8 => ⟨S2x24x4x5000, .i1⟩
  | 9 => ⟨S2x24x4x5000, .f32⟩
  | 10 => ⟨S2x24x4x1, .f32⟩
  | 11 => ⟨S2x24x4x5000, .f32⟩
  | 12 => ⟨S2x24x4x5000, .f32⟩
  | 13 => ⟨S_, .f32⟩
  | 14 => ⟨S2x24x5000, .f32⟩
  | 15 => ⟨S2x5000x24, .f32⟩
  | 16 => ⟨S_, .f32⟩
  | 17 => ⟨S2x5000, .f32⟩
  | 18 => ⟨S_, .f32⟩
  | 19 => ⟨S2x5000, .f32⟩
  | 20 => ⟨S2x5000, .i1⟩
  | 21 => ⟨S_, .f32⟩
  | 22 => ⟨S2x5000x24, .f32⟩
  | 23 => ⟨S2x5000x24, .i1⟩
  | 24 => ⟨S_, .f32⟩
  | 25 => ⟨S_, .f32⟩
  | 26 => ⟨S2x5000x24, .f32⟩
  | 27 => ⟨S2x5000x24, .f32⟩
  | 28 => ⟨S2x5000x24, .f32⟩
  | 29 => ⟨S2x5000x1, .f32⟩
  | 30 => ⟨S2x5000x1, .i32⟩
  | 31 => ⟨S2x5000, .i32⟩
  | 32 => ⟨S2x5000x1, .i32⟩
  | 33 => ⟨S1x1x24, .i32⟩
  | 34 => ⟨S2x5000x24, .i32⟩
  | 35 => ⟨S2x5000x24, .i32⟩
  | 36 => ⟨S2x5000x24, .i1⟩
  | 37 => ⟨S2x5000x24, .f32⟩
  | 38 => ⟨S2x5000x1, .i1⟩
  | 39 => ⟨S2x5000x24, .i1⟩
  | 40 => ⟨S2x5000x24, .f32⟩
  | 41 => ⟨S_, .f32⟩
  | 42 => ⟨S2x5000, .f32⟩
  | 43 => ⟨S_, .f32⟩
  | 44 => ⟨S2x5000, .f32⟩
  | 45 => ⟨S2x5000, .i1⟩
  | 46 => ⟨S2x5000x1, .f32⟩
  | 47 => ⟨S2x5000x1, .i32⟩
  | 48 => ⟨S2x5000, .i32⟩
  | 49 => ⟨S_, .i32⟩
  | 50 => ⟨S_, .i32⟩
  | 51 => ⟨S2x5000, .i32⟩
  | 52 => ⟨S2x5000, .i32⟩
  | 53 => ⟨S_, .i32⟩
  | 54 => ⟨S2x5000, .i32⟩
  | 55 => ⟨S2x5000, .i1⟩
  | _ => ⟨S2x5000x78, .f32⟩

abbrev hbmTy (i : Nat) : BufTy := match i / 128 with
  | 0 => hbmTy0_0 i
  | 1 => hbmTy0_1 i
  | 2 => hbmTy0_2 i
  | 3 => hbmTy0_3 i
  | _ => ⟨S2x5000x78, .f32⟩

abbrev bufTy : (tb : Table) → Fin (tcTables nBuf tb) → BufTy
  | .hbm, ⟨i, _⟩ => hbmTy i
  | _, _ => ⟨S2x5000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_call2_v0 : Ref sig .tc := ⟨.hbm, 117, rfl⟩
abbrev main_call2_v1 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_16 : Ref sig .tc := ⟨.hbm, 122, rfl⟩
abbrev main_v93 : Ref sig .tc := ⟨.hbm, 123, rfl⟩
abbrev main_v94 : Ref sig .tc := ⟨.hbm, 124, rfl⟩
abbrev main_cst_17 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_18 : Ref sig .tc := ⟨.hbm, 138, rfl⟩
abbrev main_v107 : Ref sig .tc := ⟨.hbm, 139, rfl⟩
abbrev main_v108 : Ref sig .tc := ⟨.hbm, 140, rfl⟩
abbrev main_cst_19 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_call3_v0 : Ref sig .tc := ⟨.hbm, 145, rfl⟩
abbrev main_call3_v1 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_21 : Ref sig .tc := ⟨.hbm, 150, rfl⟩
abbrev main_v114 : Ref sig .tc := ⟨.hbm, 151, rfl⟩
abbrev main_v115 : Ref sig .tc := ⟨.hbm, 152, rfl⟩
abbrev main_cst_22 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_23 : Ref sig .tc := ⟨.hbm, 162, rfl⟩
abbrev main_v124 : Ref sig .tc := ⟨.hbm, 163, rfl⟩
abbrev main_v125 : Ref sig .tc := ⟨.hbm, 164, rfl⟩
abbrev main_cst_24 : Ref sig .tc := ⟨.hbm, 165, rfl⟩
abbrev main_v126 : Ref sig .tc := ⟨.hbm, 166, rfl⟩
abbrev main_v127 : Ref sig .tc := ⟨.hbm, 167, rfl⟩
abbrev main_cst_25 : Ref sig .tc := ⟨.hbm, 168, rfl⟩
abbrev main_v128 : Ref sig .tc := ⟨.hbm, 169, rfl⟩
abbrev main_v129 : Ref sig .tc := ⟨.hbm, 170, rfl⟩
abbrev main_cst_26 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_27 : Ref sig .tc := ⟨.hbm, 176, rfl⟩
abbrev main_v134 : Ref sig .tc := ⟨.hbm, 177, rfl⟩
abbrev main_v135 : Ref sig .tc := ⟨.hbm, 178, rfl⟩
abbrev main_cst_28 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_29 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_30 : Ref sig .tc := ⟨.hbm, 188, rfl⟩
abbrev main_v143 : Ref sig .tc := ⟨.hbm, 189, rfl⟩
abbrev main_v144 : Ref sig .tc := ⟨.hbm, 190, rfl⟩
abbrev main_cst_31 : Ref sig .tc := ⟨.hbm, 191, rfl⟩
abbrev main_v145 : Ref sig .tc := ⟨.hbm, 192, rfl⟩
abbrev main_v146 : Ref sig .tc := ⟨.hbm, 193, rfl⟩
abbrev main_cst_32 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_call4_c : Ref sig .tc := ⟨.hbm, 200, rfl⟩
abbrev main_call4_v0 : Ref sig .tc := ⟨.hbm, 201, rfl⟩
abbrev main_call4_v1 : Ref sig .tc := ⟨.hbm, 202, rfl⟩
abbrev main_call4_c_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_c_1 : Ref sig .tc := ⟨.hbm, 208, rfl⟩
abbrev main_call4_c_2 : Ref sig .tc := ⟨.hbm, 209, rfl⟩
abbrev main_call4_v6 : Ref sig .tc := ⟨.hbm, 210, rfl⟩
abbrev main_call4_v7 : Ref sig .tc := ⟨.hbm, 211, rfl⟩
abbrev main_call4_v8 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_c_3 : Ref sig .tc := ⟨.hbm, 216, rfl⟩
abbrev main_call4_v12 : Ref sig .tc := ⟨.hbm, 217, rfl⟩
abbrev main_call4_v13 : Ref sig .tc := ⟨.hbm, 218, rfl⟩
abbrev main_call4_cst : Ref sig .tc := ⟨.hbm, 219, rfl⟩
abbrev main_call4_v14 : Ref sig .tc := ⟨.hbm, 220, rfl⟩
abbrev main_v152 : Ref sig .tc := ⟨.hbm, 221, rfl⟩
abbrev main_call5_c : Ref sig .tc := ⟨.hbm, 222, rfl⟩
abbrev main_call5_v0 : Ref sig .tc := ⟨.hbm, 223, rfl⟩
abbrev main_call5_v1 : Ref sig .tc := ⟨.hbm, 224, rfl⟩
abbrev main_call5_c_0 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_call5_v5 : Ref sig .tc := ⟨.hbm, 229, rfl⟩
abbrev main_call5_c_1 : Ref sig .tc := ⟨.hbm, 230, rfl⟩
abbrev main_call5_c_2 : Ref sig .tc := ⟨.hbm, 231, rfl⟩
abbrev main_call5_v6 : Ref sig .tc := ⟨.hbm, 232, rfl⟩
abbrev main_call5_v7 : Ref sig .tc := ⟨.hbm, 233, rfl⟩
abbrev main_call5_v8 : Ref sig .tc := ⟨.hbm, 234, rfl⟩
abbrev main_call5_v9 : Ref sig .tc := ⟨.hbm, 235, rfl⟩
abbrev main_call5_v10 : Ref sig .tc := ⟨.hbm, 236, rfl⟩
abbrev main_call5_v11 : Ref sig .tc := ⟨.hbm, 237, rfl⟩
abbrev main_call5_c_3 : Ref sig .tc := ⟨.hbm, 238, rfl⟩
abbrev main_call5_v12 : Ref sig .tc := ⟨.hbm, 239, rfl⟩
abbrev main_call5_v13 : Ref sig .tc := ⟨.hbm, 240, rfl⟩
abbrev main_call5_cst : Ref sig .tc := ⟨.hbm, 241, rfl⟩
abbrev main_call5_v14 : Ref sig .tc := ⟨.hbm, 242, rfl⟩
abbrev main_v153 : Ref sig .tc := ⟨.hbm, 243, rfl⟩
abbrev main_v154 : Ref sig .tc := ⟨.hbm, 244, rfl⟩
abbrev main_cst_33 : Ref sig .tc := ⟨.hbm, 245, rfl⟩
abbrev main_call6_v0 : Ref sig .tc := ⟨.hbm, 246, rfl⟩
abbrev main_call6_v1 : Ref sig .tc := ⟨.hbm, 247, rfl⟩
abbrev main_v155 : Ref sig .tc := ⟨.hbm, 248, rfl⟩
abbrev main_cst_34 : Ref sig .tc := ⟨.hbm, 249, rfl⟩
abbrev main_call7_v0 : Ref sig .tc := ⟨.hbm, 250, rfl⟩
abbrev main_call7_v1 : Ref sig .tc := ⟨.hbm, 251, rfl⟩
abbrev main_v156 : Ref sig .tc := ⟨.hbm, 252, rfl⟩
abbrev main_v157 : Ref sig .tc := ⟨.hbm, 253, rfl⟩
abbrev main_cst_35 : Ref sig .tc := ⟨.hbm, 254, rfl⟩
abbrev main_call8_v0 : Ref sig .tc := ⟨.hbm, 255, rfl⟩
abbrev main_call8_v1 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_cst_36 : Ref sig .tc := ⟨.hbm, 261, rfl⟩
abbrev main_v162 : Ref sig .tc := ⟨.hbm, 262, rfl⟩
abbrev main_v163 : Ref sig .tc := ⟨.hbm, 263, rfl⟩
abbrev main_cst_37 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_cst_38 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_cst_39 : Ref sig .tc := ⟨.hbm, 274, rfl⟩
abbrev main_call9_v0 : Ref sig .tc := ⟨.hbm, 275, rfl⟩
abbrev main_call9_v1 : Ref sig .tc := ⟨.hbm, 276, rfl⟩
abbrev main_v172 : Ref sig .tc := ⟨.hbm, 277, rfl⟩
abbrev main_cst_40 : Ref sig .tc := ⟨.hbm, 278, rfl⟩
abbrev main_v173 : Ref sig .tc := ⟨.hbm, 279, rfl⟩
abbrev main_v174 : Ref sig .tc := ⟨.hbm, 280, rfl⟩
abbrev main_cst_41 : Ref sig .tc := ⟨.hbm, 281, rfl⟩
abbrev main_v175 : Ref sig .tc := ⟨.hbm, 282, rfl⟩
abbrev main_v176 : Ref sig .tc := ⟨.hbm, 283, rfl⟩
abbrev main_cst_42 : Ref sig .tc := ⟨.hbm, 284, rfl⟩
abbrev main_v177 : Ref sig .tc := ⟨.hbm, 285, rfl⟩
abbrev main_v178 : Ref sig .tc := ⟨.hbm, 286, rfl⟩
abbrev main_cst_43 : Ref sig .tc := ⟨.hbm, 287, rfl⟩
abbrev main_v179 : Ref sig .tc := ⟨.hbm, 288, rfl⟩
abbrev main_v180 : Ref sig .tc := ⟨.hbm, 289, rfl⟩
abbrev main_cst_44 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_cst_45 : Ref sig .tc := ⟨.hbm, 320, rfl⟩
abbrev main_call10_v0 : Ref sig .tc := ⟨.hbm, 321, rfl⟩
abbrev main_call10_v1 : Ref sig .tc := ⟨.hbm, 322, rfl⟩
abbrev main_call10_v2 : Ref sig .tc := ⟨.hbm, 323, rfl⟩
abbrev main_v210 : Ref sig .tc := ⟨.hbm, 324, rfl⟩
abbrev main_cst_46 : Ref sig .tc := ⟨.hbm, 325, rfl⟩
abbrev main_call11_v0 : Ref sig .tc := ⟨.hbm, 326, rfl⟩
abbrev main_call11_v1 : Ref sig .tc := ⟨.hbm, 327, rfl⟩
abbrev main_call11_v2 : Ref sig .tc := ⟨.hbm, 328, rfl⟩
abbrev main_v211 : Ref sig .tc := ⟨.hbm, 329, rfl⟩
abbrev main_cst_47 : Ref sig .tc := ⟨.hbm, 330, rfl⟩
abbrev main_v212 : Ref sig .tc := ⟨.hbm, 331, rfl⟩
abbrev main_cst_48 : Ref sig .tc := ⟨.hbm, 332, rfl⟩
abbrev main_v213 : Ref sig .tc := ⟨.hbm, 333, rfl⟩
abbrev main_cst_49 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_cst_50 : Ref sig .tc := ⟨.hbm, 338, rfl⟩
abbrev main_call12_v0 : Ref sig .tc := ⟨.hbm, 339, rfl⟩
abbrev main_call12_v1 : Ref sig .tc := ⟨.hbm, 340, rfl⟩
abbrev main_call12_call0_v0 : Ref sig .tc := ⟨.hbm, 341, rfl⟩
abbrev main_call12_v2 : Ref sig .tc := ⟨.hbm, 342, rfl⟩
abbrev main_call12_cst : Ref sig .tc := ⟨.hbm, 343, rfl⟩
abbrev main_call12_v3 : Ref sig .tc := ⟨.hbm, 344, rfl⟩
abbrev main_call12_v4 : Ref sig .tc := ⟨.hbm, 345, rfl⟩
abbrev main_call12_cst_0 : Ref sig .tc := ⟨.hbm, 346, rfl⟩
abbrev main_call12_call1_v0 : Ref sig .tc := ⟨.hbm, 347, rfl⟩
abbrev main_call12_v5 : Ref sig .tc := ⟨.hbm, 348, rfl⟩
abbrev main_call12_cst_1 : Ref sig .tc := ⟨.hbm, 349, rfl⟩
abbrev main_call12_v6 : Ref sig .tc := ⟨.hbm, 350, rfl⟩
abbrev main_call12_v7 : Ref sig .tc := ⟨.hbm, 351, rfl⟩
abbrev main_call12_cst_2 : Ref sig .tc := ⟨.hbm, 352, rfl⟩
abbrev main_call12_call2_v0 : Ref sig .tc := ⟨.hbm, 353, rfl⟩
abbrev main_v217 : Ref sig .tc := ⟨.hbm, 354, rfl⟩
abbrev main_cst_51 : Ref sig .tc := ⟨.hbm, 355, rfl⟩
abbrev main_call13_v0 : Ref sig .tc := ⟨.hbm, 356, rfl⟩
abbrev main_call13_v1 : Ref sig .tc := ⟨.hbm, 357, rfl⟩
abbrev main_v218 : Ref sig .tc := ⟨.hbm, 358, rfl⟩
abbrev main_v219 : Ref sig .tc := ⟨.hbm, 359, rfl⟩
abbrev main_values : Ref sig .tc := ⟨.hbm, 360, rfl⟩
abbrev main_indices : Ref sig .tc := ⟨.hbm, 361, rfl⟩
abbrev main_cst_52 : Ref sig .tc := ⟨.hbm, 362, rfl⟩
abbrev main_v220 : Ref sig .tc := ⟨.hbm, 363, rfl⟩
abbrev main_v221 : Ref sig .tc := ⟨.hbm, 364, rfl⟩
abbrev main_c_53 : Ref sig .tc := ⟨.hbm, 365, rfl⟩
abbrev main_call14_v0 : Ref sig .tc := ⟨.hbm, 366, rfl⟩
abbrev main_call14_v1 : Ref sig .tc := ⟨.hbm, 367, rfl⟩
abbrev main_v222 : Ref sig .tc := ⟨.hbm, 368, rfl⟩
abbrev main_cst_54 : Ref sig .tc := ⟨.hbm, 369, rfl⟩
abbrev main_v223 : Ref sig .tc := ⟨.hbm, 370, rfl⟩
abbrev main_v224 : Ref sig .tc := ⟨.hbm, 371, rfl⟩
abbrev main_v225 : Ref sig .tc := ⟨.hbm, 372, rfl⟩
abbrev main_c_55 : Ref sig .tc := ⟨.hbm, 373, rfl⟩
abbrev main_call15_v0 : Ref sig .tc := ⟨.hbm, 374, rfl⟩
abbrev main_call15_v1 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_values_56 : Ref sig .tc := ⟨.hbm, 379, rfl⟩
abbrev main_indices_57 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_call16_v0 : Ref sig .tc := ⟨.hbm, 388, rfl⟩
abbrev main_call16_v1 : Ref sig .tc := ⟨.hbm, 389, rfl⟩
abbrev main_call16_v2 : Ref sig .tc := ⟨.hbm, 390, rfl⟩
abbrev main_call16_v3 : Ref sig .tc := ⟨.hbm, 391, rfl⟩
abbrev main_call16_v4 : Ref sig .tc := ⟨.hbm, 392, rfl⟩
abbrev main_v236 : Ref sig .tc := ⟨.hbm, 393, rfl⟩
abbrev main_v237 : Ref sig .tc := ⟨.hbm, 394, rfl⟩
abbrev main_v238 : Ref sig .tc := ⟨.hbm, 395, rfl⟩
abbrev main_v239 : Ref sig .tc := ⟨.hbm, 396, rfl⟩
abbrev main_cst_58 : Ref sig .tc := ⟨.hbm, 397, rfl⟩
abbrev main_v240 : Ref sig .tc := ⟨.hbm, 398, rfl⟩
abbrev main_v241 : Ref sig .tc := ⟨.hbm, 399, rfl⟩
abbrev main_cst_59 : Ref sig .tc := ⟨.hbm, 400, rfl⟩
abbrev main_v242 : Ref sig .tc := ⟨.hbm, 401, rfl⟩
abbrev main_cst_60 : Ref sig .tc := ⟨.hbm, 402, rfl⟩
abbrev main_v243 : Ref sig .tc := ⟨.hbm, 403, rfl⟩
abbrev main_v244 : Ref sig .tc := ⟨.hbm, 404, rfl⟩
abbrev main_cst_61 : Ref sig .tc := ⟨.hbm, 405, rfl⟩
abbrev main_v245 : Ref sig .tc := ⟨.hbm, 406, rfl⟩
abbrev main_v246 : Ref sig .tc := ⟨.hbm, 407, rfl⟩
abbrev main_cst_62 : Ref sig .tc := ⟨.hbm, 408, rfl⟩
abbrev main_call17_v0 : Ref sig .tc := ⟨.hbm, 409, rfl⟩
abbrev main_call17_v1 : Ref sig .tc := ⟨.hbm, 410, rfl⟩
abbrev main_v247 : Ref sig .tc := ⟨.hbm, 411, rfl⟩
abbrev main_v248 : Ref sig .tc := ⟨.hbm, 412, rfl⟩
abbrev main_values_63 : Ref sig .tc := ⟨.hbm, 413, rfl⟩
abbrev main_indices_64 : Ref sig .tc := ⟨.hbm, 414, rfl⟩
abbrev main_v249 : Ref sig .tc := ⟨.hbm, 415, rfl⟩
abbrev main_call18_v0 : Ref sig .tc := ⟨.hbm, 416, rfl⟩
abbrev main_call18_v1 : Ref sig .tc := ⟨.hbm, 417, rfl⟩
abbrev main_call18_v2 : Ref sig .tc := ⟨.hbm, 418, rfl⟩
abbrev main_call18_v3 : Ref sig .tc := ⟨.hbm, 419, rfl⟩
abbrev main_call18_v4 : Ref sig .tc := ⟨.hbm, 420, rfl⟩
abbrev main_v250 : Ref sig .tc := ⟨.hbm, 421, rfl⟩
abbrev main_v251 : Ref sig .tc := ⟨.hbm, 422, rfl⟩
abbrev main_call19_v0 : Ref sig .tc := ⟨.hbm, 423, rfl⟩
abbrev main_v252 : Ref sig .tc := ⟨.hbm, 424, rfl⟩
abbrev main_cst_65 : Ref sig .tc := ⟨.hbm, 425, rfl⟩
abbrev main_v253 : Ref sig .tc := ⟨.hbm, 426, rfl⟩
abbrev main_cst_66 : Ref sig .tc := ⟨.hbm, 427, rfl⟩
abbrev main_v254 : Ref sig .tc := ⟨.hbm, 428, rfl⟩
abbrev main_v255 : Ref sig .tc := ⟨.hbm, 429, rfl⟩
abbrev main_values_67 : Ref sig .tc := ⟨.hbm, 430, rfl⟩
abbrev main_indices_68 : Ref sig .tc := ⟨.hbm, 431, rfl⟩
abbrev main_v256 : Ref sig .tc := ⟨.hbm, 432, rfl⟩
abbrev main_c_69 : Ref sig .tc := ⟨.hbm, 433, rfl⟩
abbrev main_call20_v0 : Ref sig .tc := ⟨.hbm, 434, rfl⟩
abbrev main_call20_v1 : Ref sig .tc := ⟨.hbm, 435, rfl⟩
abbrev main_v257 : Ref sig .tc := ⟨.hbm, 436, rfl⟩
abbrev main_c_70 : Ref sig .tc := ⟨.hbm, 437, rfl⟩
abbrev main_v258 : Ref sig .tc := ⟨.hbm, 438, rfl⟩
abbrev main_v259 : Ref sig .tc := ⟨.hbm, 439, rfl⟩

abbrev nD : Nat := 1
abbrev τ : Topo := Topo.v7x

variable {F : FTy → Type} [FloatOps F]
-- ==== Proof.Picks.lean ====
/-
  Picking the largest entries of a row one after the other. The plain program sorts the row in descending order,
  stably, and reads the first entries; the fast program takes the maximum, finds the first place that attains it,
  overwrites that place with a value below every entry, and goes round again. Both visit the same places in the same
  order; this module proves it, and the same for minima.
-/
module

public import Idealize.ShloMosaic.Lib.SortFacts
public import Idealize.ShloMosaic.PureOps.Ideal

@[expose] public section

noncomputable section

namespace Cert.Assign

open Idealize.ShloMosaic

variable {n : ℕ}

/-- `b` stands before `c` in descending order, the earlier of two equal entries first. -/
def Before (f : Fin n → EReal) (b c : Fin n) : Prop := f c < f b ∨ (f c = f b ∧ b < c)

/-- The place whose entry is the `r`-th largest of the row, equal entries counted from the left. -/
def descending (f : Fin n → EReal) : Fin n → Fin n := sortedFrom fun k k' => decide (f k' < f k)

/-- Inserting a place that lies left of all the others keeps a list in descending order. -/
theorem pairwise_insert (f : Fin n → EReal) (a : Fin n) (l : List (Fin n)) (ha : ∀ b ∈ l, a < b)
    (hl : l.Pairwise (Before f)) : (insertBefore (fun k k' => decide (f k' < f k)) a l).Pairwise (Before f) := by
  induction l with
  | nil => exact List.pairwise_singleton _ _
  | cons b l ih =>
    rw [List.pairwise_cons] at hl
    unfold insertBefore
    split
    · rename_i h
      refine List.pairwise_cons.mpr ⟨fun c hc => ?_, ih (fun b hb => ha b (List.mem_cons_of_mem _ hb)) hl.2⟩
      rcases List.mem_cons.mp ((perm_insertBefore _ a l).mem_iff.mp hc) with rfl | hc'
      · exact Or.inl (of_decide_eq_true h)
      · exact hl.1 c hc'
    · rename_i h
      have hle : f b ≤ f a := not_lt.mp fun hlt => h (decide_eq_true hlt)
      have hab : Before f a b := (lt_or_eq_of_le hle).imp id fun he => ⟨he, ha b List.mem_cons_self⟩
      refine List.pairwise_cons.mpr ⟨fun c hc => ?_, List.pairwise_cons.mpr hl⟩
      rcases List.mem_cons.mp hc with rfl | hc'
      · exact hab
      · rcases hl.1 c hc' with h1 | h1
        · exact Or.inl (lt_of_lt_of_le h1 hle)
        · rcases lt_or_eq_of_le hle with h2 | h2
          · exact Or.inl (h1.1 ▸ h2)
          · exact Or.inr ⟨h1.1.trans h2, ha c (List.mem_cons_of_mem _ hc')⟩

/-- The stable sort of places listed from left to right is in descending order. -/
theorem pairwise_sort (f : Fin n → EReal) (l : List (Fin n)) (hl : l.Pairwise (· < ·)) :
    (stableSort (fun k k' => decide (f k' < f k)) l).Pairwise (Before f) := by
  induction l with
  | nil => exact List.Pairwise.nil
  | cons a l ih =>
    rw [List.pairwise_cons] at hl
    unfold stableSort
    exact pairwise_insert f a _ (fun b hb => hl.1 b ((perm_stableSort _ l).mem_iff.mp hb)) (ih hl.2)

/-- Of two ranks the smaller names the place that stands before. -/
theorem descending_before (f : Fin n → EReal) {i j : Fin n} (hij : i < j) :
    Before f (descending f i) (descending f j) := by
  have hp := List.pairwise_iff_get.mp
    (pairwise_sort f (List.finRange n) (List.sortedLT_finRange n).pairwise)
  unfold descending sortedFrom
  exact hp _ _ hij

/-- The places of the ranks below `r`: those already picked. -/
def Picked (f : Fin n → EReal) (r : ℕ) (l : Fin n) : Prop := ∃ q : Fin n, q.val < r ∧ descending f q = l

/-- Every place not yet picked either is the next pick or stands after it. -/
theorem before_of_not_picked (f : Fin n → EReal) (r : Fin n) {j : Fin n} (hj : ¬ Picked f r j) :
    j = descending f r ∨ Before f (descending f r) j := by
  obtain ⟨q, rfl⟩ := sortedFrom_surjective (fun k k' => decide (f k' < f k)) j
  have hq : r ≤ q := not_lt.mp fun h => hj ⟨q, h, rfl⟩
  rcases lt_or_eq_of_le hq with h | h
  · exact Or.inr (descending_before f h)
  · exact Or.inl (h ▸ rfl)

/-- The next pick has not been picked. -/
theorem not_picked_next (f : Fin n → EReal) (r : Fin n) : ¬ Picked f r (descending f r) := by
  rintro ⟨q, hq, h⟩
  have := sortedFrom_injective _ h
  exact absurd hq (by rw [this]; exact lt_irrefl _)

/-- One more round picks one more place. -/
theorem picked_succ (f : Fin n → EReal) (r : Fin n) (l : Fin n) :
    Picked f (r.val + 1) l ↔ l = descending f r ∨ Picked f r l := by
  constructor
  · rintro ⟨q, hq, rfl⟩
    rcases Nat.lt_succ_iff_lt_or_eq.mp hq with h | h
    · exact Or.inr ⟨q, h, rfl⟩
    · exact Or.inl (by rw [Fin.ext h])
  · rintro (rfl | ⟨q, hq, rfl⟩)
    · exact ⟨r, Nat.lt_succ_self _, rfl⟩
    · exact ⟨q, Nat.lt_succ_of_lt hq, rfl⟩

/-- The maximum of a row is its entry at a place that no other exceeds. -/
theorem fold_max_eq {ι : Type} [Fintype ι] (g : ι → EReal) (i : ι) (h : ∀ j, g j ≤ g i) :
    Finset.univ.fold max ⊥ g = g i :=
  le_antisymm (Finset.fold_max_le _ |>.2 ⟨bot_le, fun j _ => h j⟩)
    (Finset.le_fold_max _ |>.2 (Or.inr ⟨i, Finset.mem_univ _, le_rfl⟩))

/-- The minimum of a row is its entry at a place that exceeds no other. -/
theorem fold_min_eq {ι : Type} [Fintype ι] (g : ι → EReal) (i : ι) (h : ∀ j, g i ≤ g j) :
    Finset.univ.fold min ⊤ g = g i :=
  le_antisymm (Finset.fold_min_le _ |>.2 (Or.inr ⟨i, Finset.mem_univ _, le_rfl⟩))
    (Finset.le_fold_min _ |>.2 ⟨le_top, fun j _ => h j⟩)

/-- A place as a number of the extended line. -/
def place (l : Fin n) : EReal := ((l.val : ℝ) : EReal)

/-- Places read as numbers keep their order. -/
theorem place_le {l l' : Fin n} : place l ≤ place l' ↔ l ≤ l' := by
  unfold place; rw [EReal.coe_le_coe_iff, Nat.cast_le]; rfl

/-- Places read as numbers stay apart. -/
theorem place_inj {l l' : Fin n} : place l = place l' ↔ l = l' := by
  unfold place; rw [EReal.coe_eq_coe_iff, Nat.cast_inj, Fin.ext_iff]

/-- The least place with a property, by a minimum that reads a number past the end elsewhere. -/
theorem fold_min_place (P : Fin n → Prop) [DecidablePred P] (big : EReal) (hbig : ((n : ℝ) : EReal) ≤ big) (i : Fin n)
    (hi : P i) (h : ∀ j, P j → i ≤ j) :
    Finset.univ.fold min ⊤ (fun l => if P l then place l else big) = place i := by
  have h0 : (fun l => if P l then place l else big) i = place i := if_pos hi
  refine (fold_min_eq _ i fun j => h0.le.trans ?_).trans h0
  split
  · rename_i hj; exact place_le.2 (h j hj)
  · refine le_trans ?_ hbig
    unfold place
    exact EReal.coe_le_coe_iff.2 (Nat.cast_le.2 i.isLt.le)

open Classical in
/-- The row after `r` rounds: the places picked (by the order of `f`) overwritten with the sentinel. -/
def overwritten (f a : Fin n → EReal) (s : EReal) (r : ℕ) (l : Fin n) : EReal := if Picked f r l then s else a l

/-- Before the first round nothing is overwritten. -/
theorem overwritten_zero (f a : Fin n → EReal) (s : EReal) : overwritten f a s 0 = a := by
  funext l
  exact if_neg (by rintro ⟨q, hq, _⟩; exact absurd hq (Nat.not_lt_zero _))

/-- Overwriting the next pick gives the row of the next round. -/
theorem overwritten_succ (f a : Fin n → EReal) (s : EReal) (r : Fin n) (l : Fin n) :
    (if place l = place (descending f r) then s else overwritten f a s r l) = overwritten f a s (r.val + 1) l := by
  unfold overwritten
  by_cases h : l = descending f r
  · rw [if_pos (place_inj.2 h), if_pos ((picked_succ f r l).2 (Or.inl h))]
  · rw [if_neg (mt place_inj.1 h)]
    by_cases h' : Picked f r l
    · rw [if_pos h', if_pos ((picked_succ f r l).2 (Or.inr h'))]
    · rw [if_neg h', if_neg (mt (picked_succ f r l).1 (by tauto))]

/-- The place that a round picks has not been overwritten before. -/
theorem overwritten_next (f a : Fin n → EReal) (s : EReal) (r : Fin n) :
    overwritten f a s r (descending f r) = a (descending f r) := if_neg (not_picked_next f r)

/-- In round `r` the maximum is the `r`-th largest entry. -/
theorem max_round (a : Fin n → EReal) (s : EReal) (hs : ∀ j, s < a j) (r : Fin n) :
    Finset.univ.fold max ⊥ (overwritten a a s r) = a (descending a r) := by
  rw [← overwritten_next a a s r]
  refine fold_max_eq _ _ fun j => ?_
  rw [overwritten_next]
  unfold overwritten
  split
  · exact (hs _).le
  · rename_i hj
    rcases before_of_not_picked a r hj with rfl | h | h
    · exact le_rfl
    · exact h.le
    · exact h.1.le

/-- In round `r` the first place that attains the maximum is the place of rank `r`. -/
theorem max_round_place (a : Fin n → EReal) (s : EReal) (hs : ∀ j, s < a j) (big : EReal)
    (hbig : ((n : ℝ) : EReal) ≤ big) (r : Fin n) :
    Finset.univ.fold min ⊤ (fun l => if a (descending a r) ≤ overwritten a a s r l then place l else big)
      = place (descending a r) := by
  classical
  refine fold_min_place (fun l => a (descending a r) ≤ overwritten a a s r l) big hbig _
    (overwritten_next a a s r).ge fun j hj => ?_
  by_cases hp : Picked a r j
  · exact absurd hj (by unfold overwritten; rw [if_pos hp]; exact not_le.2 (hs _))
  · unfold overwritten at hj
    rw [if_neg hp] at hj
    rcases before_of_not_picked a r hp with rfl | h | h
    · exact le_rfl
    · exact absurd hj (not_le.2 h)
    · exact h.2.le

/-- In round `r` the minimum is the `r`-th smallest entry. -/
theorem min_round (a : Fin n → EReal) (s : EReal) (hs : ∀ j, a j < s) (r : Fin n) :
    Finset.univ.fold min ⊤ (overwritten (fun l => -a l) a s r) = a (descending (fun l => -a l) r) := by
  rw [← overwritten_next (fun l => -a l) a s r]
  refine fold_min_eq _ _ fun j => ?_
  rw [overwritten_next]
  unfold overwritten
  split
  · exact (hs _).le
  · rename_i hj
    rcases before_of_not_picked _ r hj with rfl | h | h
    · exact le_rfl
    · exact (EReal.neg_lt_neg_iff.1 h).le
    · exact (neg_injective h.1).ge

/-- In round `r` the first place that attains the minimum is the place of rank `r` in ascending order. -/
theorem min_round_place (a : Fin n → EReal) (s : EReal) (hs : ∀ j, a j < s) (big : EReal)
    (hbig : ((n : ℝ) : EReal) ≤ big) (r : Fin n) :
    Finset.univ.fold min ⊤ (fun l => if overwritten (fun l => -a l) a s r l ≤ a (descending (fun l => -a l) r)
        then place l else big) = place (descending (fun l => -a l) r) := by
  classical
  refine fold_min_place (fun l => overwritten (fun l => -a l) a s r l ≤ a (descending (fun l => -a l) r)) big hbig _
    (overwritten_next _ a s r).le fun j hj => ?_
  by_cases hp : Picked (fun l => -a l) r j
  · exact absurd hj (by unfold overwritten; rw [if_pos hp]; exact not_le.2 (hs _))
  · unfold overwritten at hj
    rw [if_neg hp] at hj
    rcases before_of_not_picked _ r hp with rfl | h | h
    · exact le_rfl
    · exact absurd hj (not_le.2 (EReal.neg_lt_neg_iff.1 h))
    · exact h.2.le

/-- The place of rank 0 holds an entry that no other exceeds, and no place left of it does. -/
theorem descending_zero (f : Fin n → EReal) (z : Fin n) (hz : z.val = 0) (j : Fin n) :
    f j ≤ f (descending f z) ∧ (f j = f (descending f z) → descending f z ≤ j) := by
  rcases before_of_not_picked f z (j := j) (by rintro ⟨q, hq, _⟩; omega) with rfl | h | h
  · exact ⟨le_rfl, fun _ => le_rfl⟩
  · exact ⟨h.le, fun he => absurd he h.ne⟩
  · exact ⟨h.1.le, fun _ => h.2.le⟩

/-- The minimum of a row and the first place that attains it. -/
theorem min_place (a : Fin n → EReal) (big : EReal) (hbig : ((n : ℝ) : EReal) ≤ big) (z : Fin n) (hz : z.val = 0) :
    Finset.univ.fold min ⊤ (fun l => if a l ≤ Finset.univ.fold min ⊤ a then place l else big)
      = place (descending (fun l => -a l) z) := by
  classical
  have hd := descending_zero (fun l => -a l) z hz
  have hmin : Finset.univ.fold min ⊤ a = a (descending (fun l => -a l) z) :=
    fold_min_eq _ _ fun j => EReal.neg_le_neg_iff.1 (hd j).1
  rw [hmin]
  refine fold_min_place (fun l => a l ≤ a (descending (fun l => -a l) z)) big hbig _ le_rfl fun j hj => (hd j).2 ?_
  exact congrArg Neg.neg (le_antisymm hj (EReal.neg_le_neg_iff.1 (hd j).1))

end Cert.Assign

end
-- ==== Proof.Spec.lean ====
/-
  The assignment problem of one batch element, written over the extended real numbers: the lane distances, the start
  and angle distances, their scores, the classification cost, the cost matrix, the overlap matrix, how many
  predictions each target takes, and which target each prediction is given.
-/
module

public import proofs.«01_k».proof.Proof.Picks

@[expose] public section

noncomputable section

namespace Cert.Assign

open Idealize.ShloMosaic

/-- The number a 32-bit float pattern denotes. -/
abbrev lit (b : BitVec 32) : EReal := Ideal.ofBits .f32 b

/-- The magnitude of a number. -/
def mag (x : EReal) : EReal := max x (-x)

/-- What one batch element offers: the scaled points `X` of the predictions and `Y` of the targets, the width `w` of
    the image, the scaled start points (`px`, `py` and `tx`, `ty`), the angles (`pa`, `ta`), the two logits of each
    prediction, and the label and the mask of each target. -/
structure Scene where
  X : Fin 5000 → Fin 72 → EReal
  Y : Fin 24 → Fin 72 → EReal
  w : EReal
  px : Fin 5000 → EReal
  py : Fin 5000 → EReal
  pa : Fin 5000 → EReal
  l0 : Fin 5000 → EReal
  l1 : Fin 5000 → EReal
  tx : Fin 24 → EReal
  ty : Fin 24 → EReal
  ta : Fin 24 → EReal
  lab : Fin 24 → EReal
  msk : Fin 24 → EReal

namespace Scene

variable (s : Scene)

/-- Point `k` of target `t` lies in the image. -/
def inside (t : Fin 24) (k : Fin 72) : Prop := 0 ≤ s.Y t k ∧ s.Y t k < s.w

/-- Whether a point is in the image can be decided. -/
instance (t : Fin 24) (k : Fin 72) : Decidable (s.inside t k) := inferInstanceAs (Decidable (_ ∧ _))

/-- How many points of target `t` lie in the image. -/
def count (t : Fin 24) : EReal := ∑ k : Fin 72, if s.inside t k then 1 else 0

/-- The summed distance of prediction `p` from target `t`, over the points in the image. -/
def gap (t : Fin 24) (p : Fin 5000) : EReal :=
  ∑ k : Fin 72, mag (s.X p k - s.Y t k) * (if s.inside t k then 1 else 0)

/-- The mean distance. -/
def dist (t : Fin 24) (p : Fin 5000) : EReal := Ideal.div (s.gap t p) (max (s.count t) 1)

/-- The distance of the start points. -/
def start (t : Fin 24) (p : Fin 5000) : EReal :=
  Ideal.sqrt (max ((s.px p - s.tx t) * (s.px p - s.tx t) + (s.py p - s.ty t) * (s.py p - s.ty t)) 0)

/-- The difference of the angles, in degrees. -/
def turn (t : Fin 24) (p : Fin 5000) : EReal := mag (s.pa p - s.ta t) * lit 0x43340000#32

end Scene

/-- The largest entry of a table of distances. -/
def peak (g : Fin 24 → Fin 5000 → EReal) : EReal :=
  (Finset.univ : Finset (Fin 24 × Fin 5000)).fold max ⊥ fun x => g x.1 x.2

/-- The score of a distance: near 1 where it is small beside the largest, never below 0.001. -/
def score (g : Fin 24 → Fin 5000 → EReal) (t : Fin 24) (p : Fin 5000) : EReal :=
  max (1 - Ideal.div (g t p) (max (peak g) (lit 0x322BCC77#32)) + lit 0x3C23D70A#32) (lit 0x3A83126F#32)

/-- The focal cost of a logit. -/
def focal (x : EReal) : EReal :=
  -Ideal.log (Ideal.logistic x + lit 0x2B8CBCCC#32) * lit 0x3E800000#32
      * ((1 - Ideal.logistic x) * (1 - Ideal.logistic x))
    - -Ideal.log (1 - Ideal.logistic x + lit 0x2B8CBCCC#32) * lit 0x3F400000#32
      * (Ideal.logistic x * Ideal.logistic x)

namespace Scene

variable (s : Scene)

/-- The product of the three scores. -/
def reg (t : Fin 24) (p : Fin 5000) : EReal := score s.dist t p * score s.start t p * score s.turn t p

/-- The classification cost of prediction `p` for the label of target `t`. -/
def cls (t : Fin 24) (p : Fin 5000) : EReal :=
  if Ideal.fptosi 32 (s.lab t) = 0#32 then focal (s.l0 p) else focal (s.l1 p)

/-- The cost of giving target `t` to prediction `p`; a target that is masked out costs 1e8. -/
def cost (t : Fin 24) (p : Fin 5000) : EReal :=
  if 0 < s.msk t then -(s.reg t p * s.reg t p) * lit 0x40400000#32 + s.cls t p else lit 0x4CBEBC20#32

/-- The overlap of two lanes thirty wide: intersection over union, over the points in the image. -/
def overlap (t : Fin 24) (p : Fin 5000) : EReal :=
  if 0 < s.msk t then
    Ideal.div (lit 0x41F00000#32 * s.count t - s.gap t p)
      (lit 0x41F00000#32 * s.count t + s.gap t p + lit 0x3089705F#32)
  else 0

/-- One of the four ranks, as a rank of a row of predictions. -/
abbrev rank (r : Fin 4) : Fin 5000 := ⟨r.val, by omega⟩

/-- How many predictions target `t` takes: its four largest overlaps summed and truncated, at least one. -/
def quota (t : Fin 24) : BitVec 32 :=
  if 0 < s.msk t then
    IntOp.maxsi (Ideal.fptosi 32 (∑ r : Fin 4, s.overlap t (descending (s.overlap t) (rank r)))) 1#32
  else 0#32

/-- The prediction that costs target `t` least but `r`. -/
def cheapest (t : Fin 24) (r : Fin 4) : Fin 5000 := descending (fun l => -s.cost t l) (rank r)

/-- How often target `t` takes prediction `p`. -/
def hits (t : Fin 24) (p : Fin 5000) : ℕ :=
  ∑ r : Fin 4, if p = s.cheapest t r ∧ (r.val : ℤ) < (s.quota t).toInt then 1 else 0

end Scene

/-- Which target a prediction is given, from how often each target takes it and what each costs: none if no target
    takes it, the first cheapest of several, else the one that takes it most. -/
def given (m : Fin 24 → ℕ) (c : Fin 24 → EReal) : BitVec 32 :=
  if ∑ t, m t = 0 then -1#32
  else if 1 < ∑ t, m t then BitVec.ofNat 32 (descending (fun t => -(if m t = 0 then ⊤ else c t)) 0).val
  else BitVec.ofNat 32 (descending (fun t => ((m t : ℝ) : EReal)) 0).val

/-- The target that prediction `p` is given. -/
def Scene.answer (s : Scene) (p : Fin 5000) : BitVec 32 := given (fun t => s.hits t p) (fun t => s.cost t p)

end Cert.Assign

end
-- ==== Proof.Overlap.lean ====
/-
  The overlap of two lanes. The plain program measures the intersection and the union of two intervals at each point
  in the image and sums them; the fast program has the number of points and the summed distance. The two quotients
  agree, and lie between -1 and 1.
-/
module

public import proofs.«01_k».proof.Proof.Spec

@[expose] public section

noncomputable section

namespace Cert.Assign

open Idealize.ShloMosaic

/-- The constant 15. -/
theorem lit_15 : lit 0x41700000#32 = ((15 : ℝ) : EReal) := by simp [lit, Ideal.ofBits, Ideal.ieee, -EReal.coe_mul]; norm_num
/-- The constant 30. -/
theorem lit_30 : lit 0x41F00000#32 = ((30 : ℝ) : EReal) := by simp [lit, Ideal.ofBits, Ideal.ieee, -EReal.coe_mul]; norm_num

/-- The smallest positive number the overlap's denominator is padded with, as a real. -/
theorem lit_pad : ∃ e : ℝ, 0 < e ∧ lit 0x3089705F#32 = (e : EReal) := by
  exact ⟨9007199 * (2 ^ 53)⁻¹, by positivity, by simp [lit, Ideal.ofBits, Ideal.ieee, -EReal.coe_mul]⟩

/-- The number the fast program overwrites with while it looks for the largest. -/
theorem lit_low : lit 0xFF61B1E6#32 = ((-(14791142 * 2 ^ 104) : ℝ) : EReal) := by
  simp [lit, Ideal.ofBits, Ideal.ieee, -EReal.coe_mul]

/-- The number the fast program overwrites with while it looks for the smallest. -/
theorem lit_high : lit 0x7F61B1E6#32 = ((14791142 * 2 ^ 104 : ℝ) : EReal) := by
  simp [lit, Ideal.ofBits, Ideal.ieee, -EReal.coe_mul]

/-- The magnitude of a real. -/
theorem mag_coe (x : ℝ) : mag (x : EReal) = ((|x| : ℝ) : EReal) := by
  unfold mag
  rcases le_total 0 x with h | h
  · rw [abs_of_nonneg h, max_eq_left]
    rw [← EReal.coe_neg, EReal.coe_le_coe_iff]; linarith
  · rw [abs_of_nonpos h, max_eq_right, EReal.coe_neg]
    rw [← EReal.coe_neg, EReal.coe_le_coe_iff]; linarith

/-- A magnitude is not negative. -/
theorem mag_nonneg (x : EReal) : 0 ≤ mag x := by
  induction x with
  | bot => simp [mag]
  | top => simp [mag]
  | coe x => rw [mag_coe]; exact_mod_cast abs_nonneg x

/-- The intersection of two intervals thirty wide is thirty less the distance of their middles. -/
theorem meet_eq (x : EReal) (y : ℝ) :
    min (x + lit 0x41700000#32) ((y : EReal) + lit 0x41700000#32) - max (x - lit 0x41700000#32) ((y : EReal) - lit 0x41700000#32)
      = lit 0x41F00000#32 - mag (x - y) := by
  rw [lit_15, lit_30]
  induction x with
  | bot =>
    simp [mag, EReal.bot_sub, EReal.bot_add]
  | top =>
    rw [EReal.top_add_coe, EReal.top_sub_coe, EReal.top_sub_coe, max_eq_left le_top, min_eq_right le_top, mag]
    simp [← EReal.coe_add]
  | coe x =>
    simp only [← EReal.coe_add, ← EReal.coe_sub, mag_coe]
    rcases le_total x y with h | h
    · rw [min_eq_left (by rw [EReal.coe_le_coe_iff]; linarith), max_eq_right (by rw [EReal.coe_le_coe_iff]; linarith),
        abs_of_nonpos (by linarith), ← EReal.coe_sub]
      congr 1; ring
    · rw [min_eq_right (by rw [EReal.coe_le_coe_iff]; linarith), max_eq_left (by rw [EReal.coe_le_coe_iff]; linarith),
        abs_of_nonneg (by linarith), ← EReal.coe_sub]
      congr 1; ring

/-- The union of two intervals thirty wide is taken as thirty and the distance of their middles. -/
theorem join_eq (x : EReal) (y : ℝ) :
    max (x + lit 0x41700000#32) ((y : EReal) + lit 0x41700000#32) - min (x - lit 0x41700000#32) ((y : EReal) - lit 0x41700000#32)
      = lit 0x41F00000#32 + mag (x - y) := by
  rw [lit_15, lit_30]
  induction x with
  | bot =>
    simp [mag, EReal.bot_sub, EReal.bot_add, ← EReal.coe_add]
  | top =>
    rw [EReal.top_add_coe, EReal.top_sub_coe, EReal.top_sub_coe, max_eq_left le_top, min_eq_right le_top, mag]
    simp [← EReal.coe_sub]
  | coe x =>
    simp only [← EReal.coe_add, ← EReal.coe_sub, mag_coe]
    rcases le_total x y with h | h
    · rw [max_eq_right (by rw [EReal.coe_le_coe_iff]; linarith), min_eq_left (by rw [EReal.coe_le_coe_iff]; linarith),
        abs_of_nonpos (by linarith), ← EReal.coe_sub]
      congr 1; ring
    · rw [max_eq_left (by rw [EReal.coe_le_coe_iff]; linarith), min_eq_right (by rw [EReal.coe_le_coe_iff]; linarith),
        abs_of_nonneg (by linarith), ← EReal.coe_sub]
      congr 1; ring

/-- Sums over the points in the image: of thirty less a distance, and of thirty and a distance. -/
theorem sums_eq {ι : Type} (A : Finset ι) (v : ι → Prop) [DecidablePred v] (d : ι → EReal) (hd : ∀ k, 0 ≤ d k) :
    ∃ N : ℝ, 0 ≤ N ∧ (∑ k ∈ A, if v k then (1 : EReal) else 0) = (N : EReal)
      ∧ (0 : EReal) ≤ ∑ k ∈ A, d k * (if v k then 1 else 0)
      ∧ (∑ k ∈ A, if v k then ((30 : ℝ) : EReal) - d k else 0)
          = ((30 * N : ℝ) : EReal) - ∑ k ∈ A, d k * (if v k then 1 else 0)
      ∧ (∑ k ∈ A, if v k then ((30 : ℝ) : EReal) + d k else 0)
          = ((30 * N : ℝ) : EReal) + ∑ k ∈ A, d k * (if v k then 1 else 0) := by
  classical
  induction A using Finset.induction_on with
  | empty => exact ⟨0, le_rfl, by simp, by simp, by simp, by simp⟩
  | insert a A ha ih =>
    obtain ⟨N, hN, h1, h2, h3, h4⟩ := ih
    simp only [Finset.sum_insert ha]
    rw [h1, h3, h4]
    generalize (∑ k ∈ A, d k * (if v k then (1 : EReal) else 0)) = D at h2 ⊢
    by_cases hv : v a
    · simp only [if_pos hv, mul_one]
      have hda := hd a
      generalize d a = e at hda ⊢
      refine ⟨N + 1, by linarith, ?_, add_nonneg hda h2, ?_, ?_⟩
      · rw [add_comm, EReal.coe_add, EReal.coe_one]
      · induction e with
        | bot => simp at hda
        | top =>
          rw [EReal.sub_top, EReal.bot_add, EReal.top_add_of_ne_bot (ne_of_gt (lt_of_lt_of_le EReal.bot_lt_zero h2)), EReal.sub_top]
        | coe e =>
          induction D with
          | bot => simp at h2
          | top => rw [EReal.sub_top, EReal.add_bot, EReal.coe_add_top, EReal.sub_top]
          | coe D =>
            simp only [← EReal.coe_add, ← EReal.coe_sub]
            congr 1; ring
      · have : ((30 * (N + 1) : ℝ) : EReal) = ((30 : ℝ) : EReal) + ((30 * N : ℝ) : EReal) := by
          rw [← EReal.coe_add]; congr 1; ring
        rw [this, add_add_add_comm]
    · simp only [if_neg hv, mul_zero, zero_add]
      exact ⟨N, hN, rfl, h2, rfl, rfl⟩

namespace Scene

variable (s : Scene)

/-- The number of points in the image is a nonnegative real, the summed distance is nonnegative, and the summed
    intersections and unions are thirty times the number less, or plus, the distance. -/
theorem overlap_parts (t : Fin 24) (p : Fin 5000) :
    ∃ N : ℝ, 0 ≤ N ∧ s.count t = (N : EReal) ∧ 0 ≤ s.gap t p
      ∧ (∑ k : Fin 72, if s.inside t k then
            min (s.X p k + lit 0x41700000#32) (s.Y t k + lit 0x41700000#32)
              - max (s.X p k - lit 0x41700000#32) (s.Y t k - lit 0x41700000#32) else 0)
          = lit 0x41F00000#32 * s.count t - s.gap t p
      ∧ (∑ k : Fin 72, if s.inside t k then
            max (s.X p k + lit 0x41700000#32) (s.Y t k + lit 0x41700000#32)
              - min (s.X p k - lit 0x41700000#32) (s.Y t k - lit 0x41700000#32) else 0)
          = lit 0x41F00000#32 * s.count t + s.gap t p := by
  obtain ⟨N, hN, h1, h2, h3, h4⟩ := sums_eq Finset.univ (s.inside t) (fun k => mag (s.X p k - s.Y t k))
    fun k => mag_nonneg _
  have hreal : ∀ k, s.inside t k → ∃ y : ℝ, s.Y t k = (y : EReal) := by
    rintro k ⟨h0, h1⟩
    induction hY : s.Y t k with
    | bot => rw [hY] at h0; simp at h0
    | top => rw [hY] at h1; exact absurd h1 not_top_lt
    | coe y => exact ⟨y, rfl⟩
  have h30 : lit 0x41F00000#32 * s.count t = ((30 * N : ℝ) : EReal) := by
    unfold count; rw [h1, lit_30, ← EReal.coe_mul]
  refine ⟨N, hN, h1, h2, ?_, ?_⟩
  · rw [h30]; unfold gap; rw [← h3]
    refine Finset.sum_congr rfl fun k _ => ?_
    split
    · rename_i hk
      obtain ⟨y, hy⟩ := hreal k hk
      rw [hy, meet_eq, lit_30]
    · rfl
  · rw [h30]; unfold gap; rw [← h4]
    refine Finset.sum_congr rfl fun k _ => ?_
    split
    · rename_i hk
      obtain ⟨y, hy⟩ := hreal k hk
      rw [hy, join_eq, lit_30]
    · rfl

/-- The overlap is a real number between -1 and 1. -/
theorem overlap_real (t : Fin 24) (p : Fin 5000) :
    ∃ q : ℝ, -1 ≤ q ∧ q ≤ 1 ∧ Ideal.div (lit 0x41F00000#32 * s.count t - s.gap t p)
      (lit 0x41F00000#32 * s.count t + s.gap t p + lit 0x3089705F#32) = (q : EReal) := by
  obtain ⟨N, hN, h1, h2, -, -⟩ := s.overlap_parts t p
  obtain ⟨e, he, hpad⟩ := lit_pad
  rw [hpad, h1, lit_30, ← EReal.coe_mul]
  generalize s.gap t p = D at h2 ⊢
  induction D with
  | bot => simp at h2
  | top =>
    refine ⟨0, by norm_num, by norm_num, ?_⟩
    rw [EReal.coe_add_top, EReal.top_add_coe, Ideal.div, if_neg EReal.top_ne_zero, EReal.inv_top, mul_zero, EReal.coe_zero]
  | coe D =>
    have hD : 0 ≤ D := by exact_mod_cast h2
    have hpos : 0 < 30 * N + D + e := by positivity
    refine ⟨(30 * N - D) / (30 * N + D + e), ?_, ?_, ?_⟩
    · rw [le_div_iff₀ hpos]; linarith
    · rw [div_le_one hpos]; linarith
    · rw [← EReal.coe_add, ← EReal.coe_add, ← EReal.coe_sub, Ideal.div, if_neg (by exact_mod_cast hpos.ne'),
        ← EReal.coe_inv, ← EReal.coe_mul, div_eq_mul_inv]

/-- The value the fast program overwrites with while it looks for the largest overlaps lies below every overlap. -/
theorem sentinel_lt_overlap (t : Fin 24) (p : Fin 5000) : lit 0xFF61B1E6#32 < s.overlap t p := by
  have hs : lit 0xFF61B1E6#32 < ((-1 : ℝ) : EReal) := by
    rw [lit_low, EReal.coe_lt_coe_iff]; norm_num
  refine lt_of_lt_of_le hs ?_
  unfold overlap
  split
  · obtain ⟨q, h, -, hq⟩ := s.overlap_real t p
    rw [hq]; exact_mod_cast h
  · exact_mod_cast (by norm_num : (-1 : ℝ) ≤ 0)

end Scene

end Cert.Assign

end
-- ==== Proof.Bounds.lean ====
/-
  The focal cost of a logit is a real number below 1e13, so every entry of the cost matrix lies below the number the
  fast program overwrites with while it looks for the smallest costs.
-/
module

public import proofs.«01_k».proof.Proof.Overlap

@[expose] public section

noncomputable section

namespace Cert.Assign

open Idealize.ShloMosaic

/-- The constant inside the logarithms, about 1e-12. -/
theorem lit_tiny : lit 0x2B8CBCCC#32 = ((9223372 * (2 ^ 63)⁻¹ : ℝ) : EReal) := by
  simp [lit, Ideal.ofBits, Ideal.ieee, -EReal.coe_mul]

/-- The constant 0.25. -/
theorem lit_quarter : lit 0x3E800000#32 = ((1 / 4 : ℝ) : EReal) := by
  simp [lit, Ideal.ofBits, Ideal.ieee, -EReal.coe_mul]; norm_num

/-- The constant 0.75. -/
theorem lit_three_quarters : lit 0x3F400000#32 = ((3 / 4 : ℝ) : EReal) := by
  simp [lit, Ideal.ofBits, Ideal.ieee, -EReal.coe_mul]; norm_num

/-- The constant 3. -/
theorem lit_3 : lit 0x40400000#32 = ((3 : ℝ) : EReal) := by
  simp [lit, Ideal.ofBits, Ideal.ieee, -EReal.coe_mul]; norm_num

/-- The cost of a target that is masked out, 1e8. -/
theorem lit_masked : lit 0x4CBEBC20#32 = ((100000000 : ℝ) : EReal) := by
  simp [lit, Ideal.ofBits, Ideal.ieee, -EReal.coe_mul]; norm_num

/-- The logistic of any number is a real between 0 and 1. -/
theorem logistic_real (x : EReal) : ∃ q : ℝ, 0 ≤ q ∧ q ≤ 1 ∧ Ideal.logistic x = (q : EReal) := by
  induction x with
  | bot => exact ⟨0, le_rfl, zero_le_one, by simp⟩
  | top => exact ⟨1, zero_le_one, le_rfl, by simp⟩
  | coe r =>
    have := Real.exp_pos (-r)
    exact ⟨(1 + Real.exp (-r))⁻¹, by positivity, inv_le_one_of_one_le₀ (by linarith), Ideal.logistic_coe r⟩

/-- The logarithm of a positive real. -/
theorem log_pos {r : ℝ} (h : 0 < r) : Ideal.log (r : EReal) = ((Real.log r : ℝ) : EReal) := by
  exact if_neg (not_le.mpr h)

/-- The focal cost of any logit is at most 1e13. -/
theorem focal_le (x : EReal) : focal x ≤ ((10000000000000 : ℝ) : EReal) := by
  obtain ⟨q, h0, h1, hq⟩ := logistic_real x
  unfold focal
  rw [hq, lit_tiny, lit_quarter, lit_three_quarters, ← EReal.coe_one]
  have he : (0 : ℝ) < 9223372 * (2 ^ 63)⁻¹ := by positivity
  have he1 : (9223372 * (2 ^ 63)⁻¹ : ℝ) < 1 := by norm_num
  have he2 : (9223372 * (2 ^ 63)⁻¹ : ℝ)⁻¹ ≤ 9000000000000 := by norm_num
  generalize (9223372 * (2 ^ 63)⁻¹ : ℝ) = e at he he1 he2 ⊢
  rw [← EReal.coe_sub, ← EReal.coe_add, ← EReal.coe_add, log_pos (by linarith), log_pos (by linarith)]
  simp only [← EReal.coe_neg, ← EReal.coe_mul, ← EReal.coe_sub]
  rw [EReal.coe_le_coe_iff]
  have hl : -Real.log (q + e) ≤ 9000000000000 := by
    have h := Real.one_sub_inv_le_log_of_pos (show 0 < q + e by linarith)
    have h' : (q + e)⁻¹ ≤ e⁻¹ := inv_anti₀ he (by linarith)
    linarith
  have hr : Real.log (1 - q + e) ≤ 1 := by
    have h := Real.log_le_sub_one_of_pos (show 0 < 1 - q + e by linarith)
    linarith
  have hsq : (1 - q) * (1 - q) ≤ 1 := by nlinarith
  have hsq0 : 0 ≤ (1 - q) * (1 - q) := mul_self_nonneg _
  have hq2 : q * q ≤ 1 := by nlinarith
  have hq20 : 0 ≤ q * q := mul_self_nonneg _
  have a1 : -Real.log (q + e) * (1 / 4) * ((1 - q) * (1 - q)) ≤ 9000000000000 * (1 / 4) * 1 := by
    calc _ ≤ 9000000000000 * (1 / 4) * ((1 - q) * (1 - q)) :=
          mul_le_mul_of_nonneg_right (by linarith) hsq0
      _ ≤ _ := mul_le_mul_of_nonneg_left hsq (by norm_num)
  have a2 : Real.log (1 - q + e) * (3 / 4) * (q * q) ≤ 1 * (3 / 4) * 1 := by
    calc _ ≤ 1 * (3 / 4) * (q * q) := mul_le_mul_of_nonneg_right (by linarith) hq20
      _ ≤ _ := mul_le_mul_of_nonneg_left hq2 (by norm_num)
  have : -(-Real.log (1 - q + e) * (3 / 4) * (q * q)) = Real.log (1 - q + e) * (3 / 4) * (q * q) := by ring
  linarith

/-- A square is not negative. -/
theorem mul_self_nonneg' (r : EReal) : 0 ≤ r * r := by
  induction r with
  | bot => simp
  | top => simp
  | coe r => rw [← EReal.coe_mul]; exact_mod_cast mul_self_nonneg r

/-- Every entry of the cost matrix lies below the number the fast program overwrites with. -/
theorem Scene.cost_lt (s : Scene) (t : Fin 24) (p : Fin 5000) : s.cost t p < lit 0x7F61B1E6#32 := by
  rw [lit_high]
  have hcls : s.cls t p ≤ ((10000000000000 : ℝ) : EReal) := by unfold cls; split <;> exact focal_le _
  unfold cost
  split
  · have h : -(s.reg t p * s.reg t p) * lit 0x40400000#32 ≤ 0 := by
      rw [EReal.neg_mul, EReal.neg_le_zero, lit_3]
      exact mul_nonneg (mul_self_nonneg' _) (by exact_mod_cast (by norm_num : (0 : ℝ) ≤ 3))
    refine lt_of_le_of_lt (add_le_add h hcls) ?_
    rw [zero_add, EReal.coe_lt_coe_iff]; norm_num
  · rw [lit_masked, EReal.coe_lt_coe_iff]; norm_num

end Cert.Assign

end
-- ==== Proof.Matching.lean ====
/-
  From how often each target takes a prediction to the target the prediction is given: the fast program's count, two
  masked minima and a choice, and the plain program's one-hot replacement and top entry, are both `given`.
-/
module

public import proofs.«01_k».proof.Proof.Bounds

@[expose] public section

noncomputable section

namespace Cert.Assign

open Idealize.ShloMosaic

/-- The constant 0.5. -/
theorem lit_half : lit 0x3F000000#32 = ((1 / 2 : ℝ) : EReal) := by
  simp [lit, Ideal.ofBits, Ideal.ieee, -EReal.coe_mul]; norm_num

/-- The constant 24. -/
theorem lit_24 : lit 0x41C00000#32 = ((24 : ℝ) : EReal) := by
  simp [lit, Ideal.ofBits, Ideal.ieee, -EReal.coe_mul]; norm_num

/-- The constant 5000. -/
theorem lit_5000 : lit 0x459C4000#32 = ((5000 : ℝ) : EReal) := by
  simp [lit, Ideal.ofBits, Ideal.ieee, -EReal.coe_mul]; norm_num

/-- The constant -1. -/
theorem lit_minus_one : lit 0xBF800000#32 = ((-1 : ℝ) : EReal) := by
  simp [lit, Ideal.ofBits, Ideal.ieee, -EReal.coe_mul]; norm_num

/-- The constant positive infinity. -/
theorem lit_inf : lit 0x7F800000#32 = ⊤ := by simp [lit, Ideal.ofBits, Ideal.ieee]

/-- The constant negative infinity. -/
theorem lit_minus_inf : lit 0xFF800000#32 = ⊥ := by simp [lit, Ideal.ofBits, Ideal.ieee]

/-- A comparison bit widened and read as a number is 1 or 0. -/
theorem bit_number (P : Prop) [Decidable P] :
    FloatOps.sitofp (F := Ideal) FTy.f32 (BitVec.setWidth 32 (BitVec.ofBool (decide P))) = if P then 1 else 0 := by
  show (((BitVec.setWidth 32 (BitVec.ofBool (decide P))).toInt : ℝ) : EReal) = _
  by_cases h : P <;> simp [h]

/-- A word below 2^31, signed, is the natural number it holds. -/
theorem word_toInt (k : ℕ) (hk : k < 2147483648) : (BitVec.ofNat 32 k).toInt = k := by
  rw [BitVec.toInt_eq_toNat_of_lt] <;> rw [BitVec.toNat_ofNat, Nat.mod_eq_of_lt] <;> omega

/-- A word below 2^31 read as a number. -/
theorem word_number (k : ℕ) (hk : k < 2147483648) :
    FloatOps.sitofp (F := Ideal) FTy.f32 (BitVec.ofNat 32 k) = ((k : ℝ) : EReal) := by
  show (((BitVec.ofNat 32 k).toInt : ℝ) : EReal) = _
  rw [word_toInt k hk, Int.cast_natCast]

/-- A small natural number truncated to a word is itself. -/
theorem number_word (k : ℕ) (hk : k < 2147483648) : Ideal.fptosi 32 (((k : ℝ) : EReal)) = BitVec.ofNat 32 k := by
  show BitVec.ofInt 32 (max _ (min _ (if (0 : ℝ) ≤ (k : ℝ) then ⌊(k : ℝ)⌋ else ⌈(k : ℝ)⌉))) = _
  rw [if_pos (Nat.cast_nonneg k), Int.floor_natCast, min_eq_right, max_eq_right, BitVec.ofInt_natCast]
  all_goals omega

/-- The constant -1 truncated to a word. -/
theorem minus_one_word : Ideal.fptosi 32 (lit 0xBF800000#32) = -1#32 := by
  rw [lit_minus_one]
  show BitVec.ofInt 32 (max _ (min _ (if (0 : ℝ) ≤ -1 then ⌊(-1 : ℝ)⌋ else ⌈(-1 : ℝ)⌉))) = _
  rw [if_neg (by norm_num)]
  have : ⌈(-1 : ℝ)⌉ = -1 := by norm_num
  rw [this]; decide

/-- A finite sum of natural numbers, each read as a number, is the sum read as a number. -/
theorem sum_number {ι : Type} (A : Finset ι) (f : ι → ℕ) :
    ∑ i ∈ A, ((f i : ℝ) : EReal) = (((∑ i ∈ A, f i : ℕ) : ℝ) : EReal) := by
  classical
  induction A using Finset.induction_on with
  | empty => simp
  | insert a A ha ih => rw [Finset.sum_insert ha, Finset.sum_insert ha, ih, Nat.cast_add, EReal.coe_add]

/-- A product of two indicators is the indicator of both. -/
theorem hit_number (P Q : Prop) [Decidable P] [Decidable Q] :
    (if P then (1 : EReal) else 0) * (if Q then 1 else 0) = (((if P ∧ Q then 1 else 0 : ℕ) : ℝ) : EReal) := by
  by_cases hP : P <;> by_cases hQ : Q <;> simp [hP, hQ]

/-- A natural number above 0.5 is not zero. -/
theorem half_lt (k : ℕ) : lit 0x3F000000#32 < ((k : ℝ) : EReal) ↔ k ≠ 0 := by
  rw [lit_half, EReal.coe_lt_coe_iff]
  constructor
  · rintro h rfl; norm_num at h
  · intro h
    have : (1 : ℝ) ≤ k := by exact_mod_cast Nat.one_le_iff_ne_zero.mpr h
    linarith

/-- A natural number above 1, read as a number. -/
theorem one_lt (k : ℕ) : (1 : EReal) < ((k : ℝ) : EReal) ↔ 1 < k := by
  rw [← EReal.coe_one, EReal.coe_lt_coe_iff, Nat.one_lt_cast]

/-- A natural number that reads as 0 is 0. -/
theorem number_eq_zero (k : ℕ) : ((k : ℝ) : EReal) = 0 ↔ k = 0 := by
  rw [← EReal.coe_zero, EReal.coe_eq_coe_iff, Nat.cast_eq_zero]

/-- The order of natural numbers read as numbers. -/
theorem number_le (k l : ℕ) : ((k : ℝ) : EReal) ≤ ((l : ℝ) : EReal) ↔ k ≤ l := by
  rw [EReal.coe_le_coe_iff, Nat.cast_le]

/-- The fast program's choice is `given`. -/
theorem given_fast (m : Fin 24 → ℕ) (c : Fin 24 → EReal) :
    Ideal.fptosi 32 (if lit 0x3F000000#32 < ∑ t, ((m t : ℝ) : EReal) then
        if 1 < ∑ t, ((m t : ℝ) : EReal) then
          Finset.univ.fold min ⊤ fun t =>
            if (if lit 0x3F000000#32 < ((m t : ℝ) : EReal) then c t else ⊤)
                ≤ Finset.univ.fold min ⊤ (fun t => if lit 0x3F000000#32 < ((m t : ℝ) : EReal) then c t else ⊤)
            then place t else lit 0x41C00000#32
        else Finset.univ.fold min ⊤ fun t =>
          if lit 0x3F000000#32 < ((m t : ℝ) : EReal) then place t else lit 0x41C00000#32
      else lit 0xBF800000#32) = given m c := by
  have hbig : (((24 : ℕ) : ℝ) : EReal) ≤ lit 0x41C00000#32 := by rw [lit_24]; exact le_of_eq (by norm_num)
  unfold given
  rw [sum_number]
  simp only [half_lt, one_lt]
  by_cases h0 : ∑ t, m t = 0
  · rw [if_neg (by simp [h0]), if_pos h0, minus_one_word]
  · rw [if_pos h0, if_neg h0]
    by_cases h1 : 1 < ∑ t, m t
    · rw [if_pos h1, if_pos h1, min_place (fun t => if m t ≠ 0 then c t else ⊤) _ hbig 0 rfl]
      simp only [ite_not]
      exact number_word _ (by omega)
    · rw [if_neg h1, if_neg h1]
      have hd := descending_zero (fun t => ((m t : ℝ) : EReal)) 0 rfl
      simp only [number_le] at hd
      obtain ⟨i, -, hi⟩ := Finset.exists_ne_zero_of_sum_ne_zero h0
      rw [fold_min_place (fun t => m t ≠ 0) _ hbig (descending (fun t => ((m t : ℝ) : EReal)) 0) ?_ ?_]
      · exact number_word _ (by omega)
      · have := (hd i).1; omega
      · intro j hj
        by_contra hne
        have hne' : j ≠ descending (fun t => ((m t : ℝ) : EReal)) 0 := fun h => hne h.ge
        have h2 : m j + m (descending (fun t => ((m t : ℝ) : EReal)) 0) ≤ ∑ t, m t := by
          rw [← Finset.sum_pair hne']
          exact Finset.sum_le_sum_of_subset (Finset.subset_univ _)
        have := (hd j).1
        omega

/-- The top entry of a one-hot row is the hot one. -/
theorem descending_indicator (i : Fin 24) : descending (fun t => if t = i then (1 : EReal) else 0) 0 = i := by
  have h := (descending_zero (fun t => if t = i then (1 : EReal) else 0) 0 rfl i).1
  by_contra hne
  rw [if_pos rfl, if_neg hne] at h
  exact absurd h (not_le.mpr zero_lt_one)

/-- A one-hot row sums to 1. -/
theorem sum_indicator (i : Fin 24) : ∑ t, (if t = i then (1 : EReal) else 0) = 1 := by
  rw [Finset.sum_ite_eq' Finset.univ i, if_pos (Finset.mem_univ _)]

/-- The plain program's choice is `given`. -/
theorem given_plain (m : Fin 24 → ℕ) (c : Fin 24 → EReal) (m' : Fin 24 → EReal)
    (h' : m' = fun t => if 1 < ∑ t, ((m t : ℝ) : EReal) then
      (if t = descending (fun t => -(if ((m t : ℝ) : EReal) = 0 then ⊤ else c t)) 0 then 1 else 0)
      else ((m t : ℝ) : EReal)) :
    (if lit 0x3F000000#32 < ∑ t, m' t then BitVec.ofNat 32 (descending m' 0).val else -1#32) = given m c := by
  subst h'
  unfold given
  rw [sum_number]
  simp only [one_lt, number_eq_zero]
  by_cases h1 : 1 < ∑ t, m t
  · have h0 : ∑ t, m t ≠ 0 := fun h => by rw [h] at h1; exact absurd h1 (by norm_num)
    simp only [if_pos h1, if_neg h0]
    generalize descending (fun t => -(if m t = 0 then ⊤ else c t)) 0 = i
    rw [sum_indicator, descending_indicator, if_pos]
    rw [lit_half, ← EReal.coe_one, EReal.coe_lt_coe_iff]; norm_num
  · simp only [if_neg h1]
    rw [sum_number]
    simp only [half_lt]
    by_cases h0 : ∑ t, m t = 0
    · rw [if_neg (by simp [h0]), if_pos h0]
    · rw [if_pos h0, if_neg h0]

end Cert.Assign

end
-- ==== Proof.Gaps.lean ====
/-
  What one grid step of the fast program computes, from the pieces of its blocks it loads. The payloads of its body are
  put together in layers, and each layer is read at an index: the summed distances, the cost matrix, the overlaps, the
  four rounds of maxima and minima, and the target of each prediction.
-/
module

public import proofs.«01_k».proof.Proof.Matching
public import proofs.«01_k».proof.Proof.Gen.KernelIdeal.Skeleton
public import Idealize.ShloMosaic.Lib.Pointwise

@[expose] public section

set_option maxRecDepth 100000

noncomputable section

namespace Cert.Assign

open Idealize.ShloMosaic Cert.KernelIdeal Cert.KernelIdeal.Gen

/-- The magnitude of a number is the larger of it and its negation. -/
theorem absf_eq (x : Ideal .f32) : FloatOps.absf x = mag x := rfl

/-- The bit of a point in the image, as a number. -/
theorem inside_number (y w : EReal) :
    FloatOps.sitofp (F := Ideal) FTy.f32 (BitVec.setWidth 32
      (IntOp.andi (BitVec.ofBool (decide (0 ≤ y))) (BitVec.ofBool (decide (y < w))))) = if 0 ≤ y ∧ y < w then 1 else 0 := by
  rw [← bit_number]
  congr 2
  by_cases h : 0 ≤ y <;> by_cases h' : y < w <;> simp [h, h', IntOp.andi]

/-- A choice by a comparison bit is a choice by the comparison. -/
theorem select_decide {α : Type} (P : Prop) [Decidable P] (x y : α) :
    Scalar.select (BitVec.ofBool (decide P)) x y = if P then x else y := by
  by_cases h : P <;> simp [Scalar.select, h]

/-- The loaded pieces of the blocks of one grid step: the three sizes, six pieces of the predictions' block, five of
    the targets' block, the points of the transposed targets' block, and the masks. -/
structure Loads where
  v0 : Ideal .f32
  v1 : Ideal .f32
  v2 : Ideal .f32
  v3 : Vec Ideal S1x72x5000 .f32
  v7 : Vec Ideal S1x1x5000 .f32
  v11 : Vec Ideal S1x1x5000 .f32
  v15 : Vec Ideal S1x1x5000 .f32
  v17 : Vec Ideal S1x1x5000 .f32
  v19 : Vec Ideal S1x1x5000 .f32
  v21 : Vec Ideal S1x24x1 .f32
  v25 : Vec Ideal S1x24x1 .f32
  v29 : Vec Ideal S1x24x1 .f32
  v31 : Vec Ideal S1x24x1 .f32
  v36 : Vec Ideal S1x24x72 .f32
  v49 : Vec Ideal S1x72x24 .f32
  v405 : Vec Ideal S1x24x1 .f32

/-- The assignment problem the loaded pieces pose. -/
def Loads.scene (l : Loads) : Scene where
  X p k := l.v3 (ix3 (0 : Fin 1) k p) * l.v0
  Y t k := l.v36 (ix3 (0 : Fin 1) t k) * l.v0
  w := l.v2
  px p := l.v7 (ix3 (0 : Fin 1) (0 : Fin 1) p) * l.v1
  py p := l.v11 (ix3 (0 : Fin 1) (0 : Fin 1) p) * l.v0
  pa p := l.v15 (ix3 (0 : Fin 1) (0 : Fin 1) p)
  l0 p := l.v17 (ix3 (0 : Fin 1) (0 : Fin 1) p)
  l1 p := l.v19 (ix3 (0 : Fin 1) (0 : Fin 1) p)
  tx t := l.v21 (ix3 (0 : Fin 1) t (0 : Fin 1)) * l.v1
  ty t := l.v25 (ix3 (0 : Fin 1) t (0 : Fin 1)) * l.v0
  ta t := l.v29 (ix3 (0 : Fin 1) t (0 : Fin 1))
  lab t := l.v31 (ix3 (0 : Fin 1) t (0 : Fin 1))
  msk t := l.v405 (ix3 (0 : Fin 1) t (0 : Fin 1))

section Gaps

variable (v0 v2 : Ideal .f32) (v3 : Vec Ideal S1x72x5000 .f32) (v49 : Vec Ideal S1x72x24 .f32)

/-- The summed distance of a prediction from a target, from the loaded points. -/
def gapOf (t : Fin 24) (p : Fin 5000) : EReal :=
  ∑ k : Fin 72, mag (v3 (ix3 (0 : Fin 1) k p) * v0 - v49 (ix3 (0 : Fin 1) k t) * v0)
    * (if 0 ≤ v49 (ix3 (0 : Fin 1) k t) * v0 ∧ v49 (ix3 (0 : Fin 1) k t) * v0 < v2 then 1 else 0)

/-- The table of summed distances, its 24 rows one below the other. -/
def gaps : FVec Ideal S24x5000 .f32 :=
  k0_pay42 (k0_pay2 v0 v3) (k0_pay13 v0 v49) (k0_pay14 v0 v2 v49)
    (k0_pay15 v0 v2 (k0_pay2 v0 v3) v49)
    (k0_pay18 (k0_pay16 v0 (k0_pay2 v0 v3) v49) (k0_pay17 v0 v2 v49))
    (k0_pay19 (k0_pay2 v0 v3) (k0_pay13 v0 v49) (k0_pay14 v0 v2 v49))
    (k0_pay20 (k0_pay2 v0 v3) (k0_pay13 v0 v49) (k0_pay14 v0 v2 v49))
    (k0_pay21 (k0_pay2 v0 v3) (k0_pay13 v0 v49) (k0_pay14 v0 v2 v49))
    (k0_pay22 (k0_pay2 v0 v3) (k0_pay13 v0 v49) (k0_pay14 v0 v2 v49))
    (k0_pay23 (k0_pay2 v0 v3) (k0_pay13 v0 v49) (k0_pay14 v0 v2 v49))
    (k0_pay26 (k0_pay24 (k0_pay2 v0 v3) (k0_pay13 v0 v49)) (k0_pay25 (k0_pay14 v0 v2 v49)))
    (k0_pay27 (k0_pay2 v0 v3) (k0_pay13 v0 v49) (k0_pay14 v0 v2 v49))
    (k0_pay28 (k0_pay2 v0 v3) (k0_pay13 v0 v49) (k0_pay14 v0 v2 v49))
    (k0_pay29 (k0_pay2 v0 v3) (k0_pay13 v0 v49) (k0_pay14 v0 v2 v49))
    (k0_pay30 (k0_pay2 v0 v3) (k0_pay13 v0 v49) (k0_pay14 v0 v2 v49))
    (k0_pay31 (k0_pay2 v0 v3) (k0_pay13 v0 v49) (k0_pay14 v0 v2 v49))
    (k0_pay34 (k0_pay32 (k0_pay2 v0 v3) (k0_pay13 v0 v49)) (k0_pay33 (k0_pay14 v0 v2 v49)))
    (k0_pay35 (k0_pay2 v0 v3) (k0_pay13 v0 v49) (k0_pay14 v0 v2 v49))
    (k0_pay36 (k0_pay2 v0 v3) (k0_pay13 v0 v49) (k0_pay14 v0 v2 v49))
    (k0_pay37 (k0_pay2 v0 v3) (k0_pay13 v0 v49) (k0_pay14 v0 v2 v49))
    (k0_pay38 (k0_pay2 v0 v3) (k0_pay13 v0 v49) (k0_pay14 v0 v2 v49))
    (k0_pay39 (k0_pay2 v0 v3) (k0_pay13 v0 v49) (k0_pay14 v0 v2 v49))
    (k0_pay40 (k0_pay2 v0 v3) (k0_pay13 v0 v49)) (k0_pay41 (k0_pay14 v0 v2 v49))

/-- Row 0 of the summed distances. -/
theorem gaps_0 (p : Fin 5000) : gaps v0 v2 v3 v49 (ix2 (0 : Fin 24) p) = gapOf v0 v2 v3 v49 0 p := by
  pointwise [gaps, k0_pay42, k0_pay13, k0_pay14, k0_pay15, k0_pay2]
  simp only [absf_eq, inside_number, gapOf]

/-- Row 1 of the summed distances. -/
theorem gaps_1 (p : Fin 5000) : gaps v0 v2 v3 v49 (ix2 (1 : Fin 24) p) = gapOf v0 v2 v3 v49 1 p := by
  pointwise [gaps, k0_pay42, k0_pay13, k0_pay14, k0_pay16, k0_pay17, k0_pay18, k0_pay2]
  simp only [absf_eq, inside_number, gapOf]

/-- Row 2 of the summed distances. -/
theorem gaps_2 (p : Fin 5000) : gaps v0 v2 v3 v49 (ix2 (2 : Fin 24) p) = gapOf v0 v2 v3 v49 2 p := by
  pointwise [gaps, k0_pay42, k0_pay13, k0_pay14, k0_pay19, k0_pay2]
  simp only [absf_eq, inside_number, gapOf]

/-- Row 3 of the summed distances. -/
theorem gaps_3 (p : Fin 5000) : gaps v0 v2 v3 v49 (ix2 (3 : Fin 24) p) = gapOf v0 v2 v3 v49 3 p := by
  pointwise [gaps, k0_pay42, k0_pay13, k0_pay14, k0_pay2, k0_pay20]
  simp only [absf_eq, inside_number, gapOf]

/-- Row 4 of the summed distances. -/
theorem gaps_4 (p : Fin 5000) : gaps v0 v2 v3 v49 (ix2 (4 : Fin 24) p) = gapOf v0 v2 v3 v49 4 p := by
  pointwise [gaps, k0_pay42, k0_pay13, k0_pay14, k0_pay2, k0_pay21]
  simp only [absf_eq, inside_number, gapOf]

/-- Row 5 of the summed distances. -/
theorem gaps_5 (p : Fin 5000) : gaps v0 v2 v3 v49 (ix2 (5 : Fin 24) p) = gapOf v0 v2 v3 v49 5 p := by
  pointwise [gaps, k0_pay42, k0_pay13, k0_pay14, k0_pay2, k0_pay22]
  simp only [absf_eq, inside_number, gapOf]

/-- Row 6 of the summed distances. -/
theorem gaps_6 (p : Fin 5000) : gaps v0 v2 v3 v49 (ix2 (6 : Fin 24) p) = gapOf v0 v2 v3 v49 6 p := by
  pointwise [gaps, k0_pay42, k0_pay13, k0_pay14, k0_pay2, k0_pay23]
  simp only [absf_eq, inside_number, gapOf]

/-- Row 7 of the summed distances. -/
theorem gaps_7 (p : Fin 5000) : gaps v0 v2 v3 v49 (ix2 (7 : Fin 24) p) = gapOf v0 v2 v3 v49 7 p := by
  pointwise [gaps, k0_pay42, k0_pay13, k0_pay14, k0_pay2, k0_pay24, k0_pay25, k0_pay26]
  simp only [absf_eq, inside_number, gapOf]

/-- Row 8 of the summed distances. -/
theorem gaps_8 (p : Fin 5000) : gaps v0 v2 v3 v49 (ix2 (8 : Fin 24) p) = gapOf v0 v2 v3 v49 8 p := by
  pointwise [gaps, k0_pay42, k0_pay13, k0_pay14, k0_pay2, k0_pay27]
  simp only [absf_eq, inside_number, gapOf]

/-- Row 9 of the summed distances. -/
theorem gaps_9 (p : Fin 5000) : gaps v0 v2 v3 v49 (ix2 (9 : Fin 24) p) = gapOf v0 v2 v3 v49 9 p := by
  pointwise [gaps, k0_pay42, k0_pay13, k0_pay14, k0_pay2, k0_pay28]
  simp only [absf_eq, inside_number, gapOf]

/-- Row 10 of the summed distances. -/
theorem gaps_10 (p : Fin 5000) : gaps v0 v2 v3 v49 (ix2 (10 : Fin 24) p) = gapOf v0 v2 v3 v49 10 p := by
  pointwise [gaps, k0_pay42, k0_pay13, k0_pay14, k0_pay2, k0_pay29]
  simp only [absf_eq, inside_number, gapOf]

/-- Row 11 of the summed distances. -/
theorem gaps_11 (p : Fin 5000) : gaps v0 v2 v3 v49 (ix2 (11 : Fin 24) p) = gapOf v0 v2 v3 v49 11 p := by
  pointwise [gaps, k0_pay42, k0_pay13, k0_pay14, k0_pay2, k0_pay30]
  simp only [absf_eq, inside_number, gapOf]

/-- Row 12 of the summed distances. -/
theorem gaps_12 (p : Fin 5000) : gaps v0 v2 v3 v49 (ix2 (12 : Fin 24) p) = gapOf v0 v2 v3 v49 12 p := by
  pointwise [gaps, k0_pay42, k0_pay13, k0_pay14, k0_pay2, k0_pay31]
  simp only [absf_eq, inside_number, gapOf]

/-- Row 13 of the summed distances. -/
theorem gaps_13 (p : Fin 5000) : gaps v0 v2 v3 v49 (ix2 (13 : Fin 24) p) = gapOf v0 v2 v3 v49 13 p := by
  pointwise [gaps, k0_pay42, k0_pay13, k0_pay14, k0_pay2, k0_pay32, k0_pay33, k0_pay34]
  simp only [absf_eq, inside_number, gapOf]

/-- Row 14 of the summed distances. -/
theorem gaps_14 (p : Fin 5000) : gaps v0 v2 v3 v49 (ix2 (14 : Fin 24) p) = gapOf v0 v2 v3 v49 14 p := by
  pointwise [gaps, k0_pay42, k0_pay13, k0_pay14, k0_pay2, k0_pay35]
  simp only [absf_eq, inside_number, gapOf]

/-- Row 15 of the summed distances. -/
theorem gaps_15 (p : Fin 5000) : gaps v0 v2 v3 v49 (ix2 (15 : Fin 24) p) = gapOf v0 v2 v3 v49 15 p := by
  pointwise [gaps, k0_pay42, k0_pay13, k0_pay14, k0_pay2, k0_pay36]
  simp only [absf_eq, inside_number, gapOf]

/-- Row 16 of the summed distances. -/
theorem gaps_16 (p : Fin 5000) : gaps v0 v2 v3 v49 (ix2 (16 : Fin 24) p) = gapOf v0 v2 v3 v49 16 p := by
  pointwise [gaps, k0_pay42, k0_pay13, k0_pay14, k0_pay2, k0_pay37]
  simp only [absf_eq, inside_number, gapOf]

/-- Row 17 of the summed distances. -/
theorem gaps_17 (p : Fin 5000) : gaps v0 v2 v3 v49 (ix2 (17 : Fin 24) p) = gapOf v0 v2 v3 v49 17 p := by
  pointwise [gaps, k0_pay42, k0_pay13, k0_pay14, k0_pay2, k0_pay38]
  simp only [absf_eq, inside_number, gapOf]

/-- Row 18 of the summed distances. -/
theorem gaps_18 (p : Fin 5000) : gaps v0 v2 v3 v49 (ix2 (18 : Fin 24) p) = gapOf v0 v2 v3 v49 18 p := by
  pointwise [gaps, k0_pay42, k0_pay13, k0_pay14, k0_pay2, k0_pay39]
  simp only [absf_eq, inside_number, gapOf]

/-- Row 19 of the summed distances. -/
theorem gaps_19 (p : Fin 5000) : gaps v0 v2 v3 v49 (ix2 (19 : Fin 24) p) = gapOf v0 v2 v3 v49 19 p := by
  pointwise [gaps, k0_pay42, k0_pay2, k0_pay13, k0_pay14, k0_pay40, k0_pay41]
  simp only [absf_eq, inside_number, gapOf]

/-- Row 20 of the summed distances. -/
theorem gaps_20 (p : Fin 5000) : gaps v0 v2 v3 v49 (ix2 (20 : Fin 24) p) = gapOf v0 v2 v3 v49 20 p := by
  pointwise [gaps, k0_pay42, k0_pay2, k0_pay13, k0_pay14]
  simp only [absf_eq, inside_number, gapOf]

/-- Row 21 of the summed distances. -/
theorem gaps_21 (p : Fin 5000) : gaps v0 v2 v3 v49 (ix2 (21 : Fin 24) p) = gapOf v0 v2 v3 v49 21 p := by
  pointwise [gaps, k0_pay42, k0_pay2, k0_pay13, k0_pay14]
  simp only [absf_eq, inside_number, gapOf]

/-- Row 22 of the summed distances. -/
theorem gaps_22 (p : Fin 5000) : gaps v0 v2 v3 v49 (ix2 (22 : Fin 24) p) = gapOf v0 v2 v3 v49 22 p := by
  pointwise [gaps, k0_pay42, k0_pay2, k0_pay13, k0_pay14]
  simp only [absf_eq, inside_number, gapOf]

/-- Row 23 of the summed distances. -/
theorem gaps_23 (p : Fin 5000) : gaps v0 v2 v3 v49 (ix2 (23 : Fin 24) p) = gapOf v0 v2 v3 v49 23 p := by
  pointwise [gaps, k0_pay42, k0_pay2, k0_pay13, k0_pay14]
  simp only [absf_eq, inside_number, gapOf]

/-- Every entry of the table is the summed distance. -/
theorem gaps_apply (t : Fin 24) (p : Fin 5000) : gaps v0 v2 v3 v49 (ix2 t p) = gapOf v0 v2 v3 v49 t p := by
  fin_cases t
  · exact gaps_0 v0 v2 v3 v49 p
  · exact gaps_1 v0 v2 v3 v49 p
  · exact gaps_2 v0 v2 v3 v49 p
  · exact gaps_3 v0 v2 v3 v49 p
  · exact gaps_4 v0 v2 v3 v49 p
  · exact gaps_5 v0 v2 v3 v49 p
  · exact gaps_6 v0 v2 v3 v49 p
  · exact gaps_7 v0 v2 v3 v49 p
  · exact gaps_8 v0 v2 v3 v49 p
  · exact gaps_9 v0 v2 v3 v49 p
  · exact gaps_10 v0 v2 v3 v49 p
  · exact gaps_11 v0 v2 v3 v49 p
  · exact gaps_12 v0 v2 v3 v49 p
  · exact gaps_13 v0 v2 v3 v49 p
  · exact gaps_14 v0 v2 v3 v49 p
  · exact gaps_15 v0 v2 v3 v49 p
  · exact gaps_16 v0 v2 v3 v49 p
  · exact gaps_17 v0 v2 v3 v49 p
  · exact gaps_18 v0 v2 v3 v49 p
  · exact gaps_19 v0 v2 v3 v49 p
  · exact gaps_20 v0 v2 v3 v49 p
  · exact gaps_21 v0 v2 v3 v49 p
  · exact gaps_22 v0 v2 v3 v49 p
  · exact gaps_23 v0 v2 v3 v49 p

end Gaps

end Cert.Assign

end
-- ==== Proof.Block.lean ====
/-
  One grid step of the fast program, above the summed distances: the cost matrix, the overlaps, the four rounds, the
  target of each prediction.
-/
module

public import proofs.«01_k».proof.Proof.Gaps

@[expose] public section

set_option maxRecDepth 100000

noncomputable section

namespace Cert.Assign

open Idealize.ShloMosaic Cert.KernelIdeal Cert.KernelIdeal.Gen

/-- A choice by a bit is a choice by what it stands for. -/
theorem select_bit {α : Type} (b : Bool) (x y : α) : Scalar.select (BitVec.ofBool b) x y = if b = true then x else y := by
  cases b <;> simp [Scalar.select]

/-- Truncation of a number to a word. -/
theorem fptosi_eq (x : Ideal .f32) : FloatOps.fptosi (F := Ideal) 32 x = Ideal.fptosi 32 x := rfl

namespace Loads

variable (l : Loads)

/-- The transposed targets hold the points of the targets. -/
def Transposed : Prop := ∀ (t : Fin 24) (k : Fin 72), l.v49 (ix3 (0 : Fin 1) k t) = l.v36 (ix3 (0 : Fin 1) t k)

/-- The summed distances. -/
def sums : FVec Ideal S24x5000 .f32 := gaps l.v0 l.v2 l.v3 l.v49

/-- The mean distances over the largest of them. -/
def relative : FVec Ideal S24x5000 .f32 :=
  k0_pay43 (k0_pay2 l.v0 l.v3) (k0_pay12 l.v0 l.v2 l.v36) (k0_pay13 l.v0 l.v49) (k0_pay14 l.v0 l.v2 l.v49)
    (k0_pay15 l.v0 l.v2 (k0_pay2 l.v0 l.v3) l.v49)
    (k0_pay18 (k0_pay16 l.v0 (k0_pay2 l.v0 l.v3) l.v49) (k0_pay17 l.v0 l.v2 l.v49))
    (k0_pay19 (k0_pay2 l.v0 l.v3) (k0_pay13 l.v0 l.v49) (k0_pay14 l.v0 l.v2 l.v49))
    (k0_pay20 (k0_pay2 l.v0 l.v3) (k0_pay13 l.v0 l.v49) (k0_pay14 l.v0 l.v2 l.v49))
    (k0_pay21 (k0_pay2 l.v0 l.v3) (k0_pay13 l.v0 l.v49) (k0_pay14 l.v0 l.v2 l.v49))
    (k0_pay22 (k0_pay2 l.v0 l.v3) (k0_pay13 l.v0 l.v49) (k0_pay14 l.v0 l.v2 l.v49))
    (k0_pay23 (k0_pay2 l.v0 l.v3) (k0_pay13 l.v0 l.v49) (k0_pay14 l.v0 l.v2 l.v49))
    (k0_pay26 (k0_pay24 (k0_pay2 l.v0 l.v3) (k0_pay13 l.v0 l.v49)) (k0_pay25 (k0_pay14 l.v0 l.v2 l.v49)))
    (k0_pay27 (k0_pay2 l.v0 l.v3) (k0_pay13 l.v0 l.v49) (k0_pay14 l.v0 l.v2 l.v49))
    (k0_pay28 (k0_pay2 l.v0 l.v3) (k0_pay13 l.v0 l.v49) (k0_pay14 l.v0 l.v2 l.v49))
    (k0_pay29 (k0_pay2 l.v0 l.v3) (k0_pay13 l.v0 l.v49) (k0_pay14 l.v0 l.v2 l.v49))
    (k0_pay30 (k0_pay2 l.v0 l.v3) (k0_pay13 l.v0 l.v49) (k0_pay14 l.v0 l.v2 l.v49))
    (k0_pay31 (k0_pay2 l.v0 l.v3) (k0_pay13 l.v0 l.v49) (k0_pay14 l.v0 l.v2 l.v49))
    (k0_pay34 (k0_pay32 (k0_pay2 l.v0 l.v3) (k0_pay13 l.v0 l.v49)) (k0_pay33 (k0_pay14 l.v0 l.v2 l.v49)))
    (k0_pay35 (k0_pay2 l.v0 l.v3) (k0_pay13 l.v0 l.v49) (k0_pay14 l.v0 l.v2 l.v49))
    (k0_pay36 (k0_pay2 l.v0 l.v3) (k0_pay13 l.v0 l.v49) (k0_pay14 l.v0 l.v2 l.v49))
    (k0_pay37 (k0_pay2 l.v0 l.v3) (k0_pay13 l.v0 l.v49) (k0_pay14 l.v0 l.v2 l.v49))
    (k0_pay38 (k0_pay2 l.v0 l.v3) (k0_pay13 l.v0 l.v49) (k0_pay14 l.v0 l.v2 l.v49))
    (k0_pay39 (k0_pay2 l.v0 l.v3) (k0_pay13 l.v0 l.v49) (k0_pay14 l.v0 l.v2 l.v49))
    (k0_pay40 (k0_pay2 l.v0 l.v3) (k0_pay13 l.v0 l.v49)) (k0_pay41 (k0_pay14 l.v0 l.v2 l.v49))

/-- The product of the three scores. -/
def scores : FVec Ideal S24x5000 .f32 :=
  k0_pay48 (k0_pay44 (k0_pay3 l.v1 l.v7) (k0_pay4 l.v0 l.v11) (k0_pay8 l.v1 l.v21) (k0_pay9 l.v0 l.v25))
    (k0_pay45 (k0_pay5 l.v15) (k0_pay10 l.v29))
    (k0_pay46 l.relative (Scalar.ofBits .f32 0x3F800000#32)) (k0_pay47 (F := Ideal))

/-- The cost matrix. -/
def costs : FVec Ideal S24x5000 .f32 :=
  k0_pay54 (k0_pay11 l.v31) l.scores (k0_pay49 (k0_pay6 l.v17)) (k0_pay50 (k0_pay7 l.v19))
    (k0_pay51 (k0_pay7 l.v19)) (k0_pay52 (k0_pay7 l.v19)) l.v405

/-- The overlaps, before the mask. -/
def overlaps : FVec Ideal S24x5000 .f32 := k0_pay55 (k0_pay12 l.v0 l.v2 l.v36) l.sums

/-- How many predictions each target takes. -/
def quotas : IVec S24x1 32 :=
  k0_pay67 (k0_pay53 l.v405)
    (k0_pay65 l.overlaps (Scalar.ofBits .f32 0x00000000#32) (k0_pay56 l.v405))
    (k0_pay66 l.overlaps (Scalar.ofBits .f32 0x00000000#32) (k0_pay56 l.v405))

/-- The place of the fourth-smallest cost of each target. -/
def fourth : FVec Ideal S24x1 .f32 := k0_pay74 (k0_pay58 (F := Ideal)) (k0_pay73 l.costs (k0_pay58 (F := Ideal)))

/-- The first three terms of the matching. -/
def three : FVec Ideal S24x5000 .f32 :=
  k0_pay75 (k0_pay58 (F := Ideal)) l.quotas (k0_pay68 l.costs (k0_pay58 (F := Ideal)))
    (k0_pay70 l.costs (k0_pay58 (F := Ideal))) (k0_pay72 l.costs (k0_pay58 (F := Ideal)))

/-- What the grid step stores. -/
def stored : IVec S1x1x5000 32 :=
  k0_pay1 (k0_pay79 (k0_pay58 (F := Ideal)) l.fourth l.three (k0_pay76 l.quotas))
    (k0_pay80 l.costs (k0_pay58 (F := Ideal)) (k0_pay59 (F := Ideal)) l.fourth l.three (k0_pay76 l.quotas))

variable {l}

/-- The number of points in the image. -/
theorem count_apply (t : Fin 24) : k0_pay12 l.v0 l.v2 l.v36 (ix2 t (0 : Fin 1)) = l.scene.count t := by
  pointwise [k0_pay12]
  simp only [inside_number]
  rfl

/-- The summed distances. -/
theorem sums_apply (h : l.Transposed) (t : Fin 24) (p : Fin 5000) : l.sums (ix2 t p) = l.scene.gap t p := by
  unfold sums
  rw [gaps_apply]
  unfold gapOf
  unfold Transposed at h
  simp only [h]
  rfl

/-- The score of a mean distance, from the summed distances `S` and the counts. -/
theorem relative_read (v6 : FVec Ideal S72x5000 .f32) (v48 : FVec Ideal S24x1 .f32) (v52 v59 : FVec Ideal S72x24 .f32)
    (v68 v77 v86 v95 v104 v113 v122 v131 v140 v149 v158 v167 v176 v185 v194 v203 v212 v221 v230 :
      FVec Ideal S1x5000 .f32) (v235 v236 : FVec Ideal S72x5000 .f32) (S : FVec Ideal S24x5000 .f32)
    (hS : k0_pay42 v6 v52 v59 v68 v77 v86 v95 v104 v113 v122 v131 v140 v149 v158 v167 v176 v185 v194 v203 v212 v221 v230 v235 v236 = S) (t : Fin 24) (p : Fin 5000) :
    k0_pay46 (k0_pay43 v6 v48 v52 v59 v68 v77 v86 v95 v104 v113 v122 v131 v140 v149 v158 v167 v176 v185 v194 v203 v212 v221 v230 v235 v236)
      (Scalar.ofBits .f32 0x3F800000#32) (ix2 t p)
      = score (fun t p => Ideal.div (S (ix2 t p)) (max (v48 (ix2 t (0 : Fin 1))) 1)) t p := by
  pointwise [k0_pay43, k0_pay46]
  rw [hS]
  unfold score peak
  rw [← lit_minus_inf]

/-- The score of the mean distance. -/
theorem relative_apply (h : l.Transposed) (t : Fin 24) (p : Fin 5000) :
    k0_pay46 l.relative (Scalar.ofBits .f32 0x3F800000#32) (ix2 t p) = score l.scene.dist t p := by
  have hg :
      k0_pay42 (k0_pay2 l.v0 l.v3) (k0_pay13 l.v0 l.v49) (k0_pay14 l.v0 l.v2 l.v49)
      (k0_pay15 l.v0 l.v2 (k0_pay2 l.v0 l.v3) l.v49)
      (k0_pay18 (k0_pay16 l.v0 (k0_pay2 l.v0 l.v3) l.v49) (k0_pay17 l.v0 l.v2 l.v49))
      (k0_pay19 (k0_pay2 l.v0 l.v3) (k0_pay13 l.v0 l.v49) (k0_pay14 l.v0 l.v2 l.v49))
      (k0_pay20 (k0_pay2 l.v0 l.v3) (k0_pay13 l.v0 l.v49) (k0_pay14 l.v0 l.v2 l.v49))
      (k0_pay21 (k0_pay2 l.v0 l.v3) (k0_pay13 l.v0 l.v49) (k0_pay14 l.v0 l.v2 l.v49))
      (k0_pay22 (k0_pay2 l.v0 l.v3) (k0_pay13 l.v0 l.v49) (k0_pay14 l.v0 l.v2 l.v49))
      (k0_pay23 (k0_pay2 l.v0 l.v3) (k0_pay13 l.v0 l.v49) (k0_pay14 l.v0 l.v2 l.v49))
      (k0_pay26 (k0_pay24 (k0_pay2 l.v0 l.v3) (k0_pay13 l.v0 l.v49)) (k0_pay25 (k0_pay14 l.v0 l.v2 l.v49)))
      (k0_pay27 (k0_pay2 l.v0 l.v3) (k0_pay13 l.v0 l.v49) (k0_pay14 l.v0 l.v2 l.v49))
      (k0_pay28 (k0_pay2 l.v0 l.v3) (k0_pay13 l.v0 l.v49) (k0_pay14 l.v0 l.v2 l.v49))
      (k0_pay29 (k0_pay2 l.v0 l.v3) (k0_pay13 l.v0 l.v49) (k0_pay14 l.v0 l.v2 l.v49))
      (k0_pay30 (k0_pay2 l.v0 l.v3) (k0_pay13 l.v0 l.v49) (k0_pay14 l.v0 l.v2 l.v49))
      (k0_pay31 (k0_pay2 l.v0 l.v3) (k0_pay13 l.v0 l.v49) (k0_pay14 l.v0 l.v2 l.v49))
      (k0_pay34 (k0_pay32 (k0_pay2 l.v0 l.v3) (k0_pay13 l.v0 l.v49)) (k0_pay33 (k0_pay14 l.v0 l.v2 l.v49)))
      (k0_pay35 (k0_pay2 l.v0 l.v3) (k0_pay13 l.v0 l.v49) (k0_pay14 l.v0 l.v2 l.v49))
      (k0_pay36 (k0_pay2 l.v0 l.v3) (k0_pay13 l.v0 l.v49) (k0_pay14 l.v0 l.v2 l.v49))
      (k0_pay37 (k0_pay2 l.v0 l.v3) (k0_pay13 l.v0 l.v49) (k0_pay14 l.v0 l.v2 l.v49))
      (k0_pay38 (k0_pay2 l.v0 l.v3) (k0_pay13 l.v0 l.v49) (k0_pay14 l.v0 l.v2 l.v49))
      (k0_pay39 (k0_pay2 l.v0 l.v3) (k0_pay13 l.v0 l.v49) (k0_pay14 l.v0 l.v2 l.v49))
      (k0_pay40 (k0_pay2 l.v0 l.v3) (k0_pay13 l.v0 l.v49)) (k0_pay41 (k0_pay14 l.v0 l.v2 l.v49)) = l.sums := by
    unfold sums gaps; exact Eq.refl _
  unfold relative
  rw [relative_read _ _ _ _ _ _ _ _ _ _ _ _ _ _ _ _ _ _ _ _ _ _ _ _ _ _ hg]
  simp only [sums_apply h, count_apply]
  have hd : (fun t p => Ideal.div (l.scene.gap t p) (max (l.scene.count t) 1)) = l.scene.dist := by
    funext t p; unfold Scene.dist; with_reducible rfl
  rw [hd]

/-- The product of the three scores, from the score of the mean distance. -/
theorem scores_read (v1 v0 : Ideal .f32) (v7 v11 v15 : Vec Ideal S1x1x5000 .f32) (v21 v25 v29 : Vec Ideal S1x24x1 .f32)
    (R : FVec Ideal S24x5000 .f32) (t : Fin 24) (p : Fin 5000) :
    k0_pay48 (k0_pay44 (k0_pay3 v1 v7) (k0_pay4 v0 v11) (k0_pay8 v1 v21) (k0_pay9 v0 v25))
      (k0_pay45 (k0_pay5 v15) (k0_pay10 v29)) R (k0_pay47 (F := Ideal)) (ix2 t p)
      = R (ix2 t p)
        * score (fun t p => Ideal.sqrt (max
            ((v7 (ix3 (0 : Fin 1) (0 : Fin 1) p) * v1 - v21 (ix3 (0 : Fin 1) t (0 : Fin 1)) * v1)
                * (v7 (ix3 (0 : Fin 1) (0 : Fin 1) p) * v1 - v21 (ix3 (0 : Fin 1) t (0 : Fin 1)) * v1)
              + (v11 (ix3 (0 : Fin 1) (0 : Fin 1) p) * v0 - v25 (ix3 (0 : Fin 1) t (0 : Fin 1)) * v0)
                * (v11 (ix3 (0 : Fin 1) (0 : Fin 1) p) * v0 - v25 (ix3 (0 : Fin 1) t (0 : Fin 1)) * v0)) 0)) t p
        * score (fun t p => mag (v15 (ix3 (0 : Fin 1) (0 : Fin 1) p) - v29 (ix3 (0 : Fin 1) t (0 : Fin 1)))
            * lit 0x43340000#32) t p := by
  pointwise [k0_pay48, k0_pay47, k0_pay45, k0_pay44, k0_pay3, k0_pay4, k0_pay8, k0_pay9, k0_pay5, k0_pay10]
  simp only [absf_eq]
  unfold score peak
  rw [← lit_minus_inf]

/-- The distances of the start points, as the loaded pieces give them. -/
theorem start_eq : (fun t p => Ideal.sqrt (max
    ((l.v7 (ix3 (0 : Fin 1) (0 : Fin 1) p) * l.v1 - l.v21 (ix3 (0 : Fin 1) t (0 : Fin 1)) * l.v1)
        * (l.v7 (ix3 (0 : Fin 1) (0 : Fin 1) p) * l.v1 - l.v21 (ix3 (0 : Fin 1) t (0 : Fin 1)) * l.v1)
      + (l.v11 (ix3 (0 : Fin 1) (0 : Fin 1) p) * l.v0 - l.v25 (ix3 (0 : Fin 1) t (0 : Fin 1)) * l.v0)
        * (l.v11 (ix3 (0 : Fin 1) (0 : Fin 1) p) * l.v0 - l.v25 (ix3 (0 : Fin 1) t (0 : Fin 1)) * l.v0)) 0))
    = l.scene.start := by
  funext t p
  unfold Scene.start scene
  with_reducible rfl

/-- The differences of the angles, as the loaded pieces give them. -/
theorem turn_eq : (fun t p =>
    mag (l.v15 (ix3 (0 : Fin 1) (0 : Fin 1) p) - l.v29 (ix3 (0 : Fin 1) t (0 : Fin 1))) * lit 0x43340000#32)
    = l.scene.turn := by
  funext t p
  unfold Scene.turn scene
  with_reducible rfl

/-- The product of the three scores. -/
theorem scores_eq (t : Fin 24) (p : Fin 5000) : l.scores (ix2 t p)
    = k0_pay46 l.relative (Scalar.ofBits .f32 0x3F800000#32) (ix2 t p)
      * score l.scene.start t p * score l.scene.turn t p := by
  unfold scores
  rw [scores_read, start_eq, turn_eq]

/-- The product of the three scores. -/
theorem scores_apply (h : l.Transposed) (t : Fin 24) (p : Fin 5000) : l.scores (ix2 t p) = l.scene.reg t p := by
  rw [scores_eq, relative_apply h]
  unfold Scene.reg
  with_reducible rfl

/-- The cost matrix, from the product of the scores. -/
theorem costs_read (v17 v19 : Vec Ideal S1x1x5000 .f32) (v31 v405 : Vec Ideal S1x24x1 .f32)
    (R : FVec Ideal S24x5000 .f32) (t : Fin 24) (p : Fin 5000) :
    k0_pay54 (k0_pay11 v31) R (k0_pay49 (k0_pay6 v17)) (k0_pay50 (k0_pay7 v19)) (k0_pay51 (k0_pay7 v19))
      (k0_pay52 (k0_pay7 v19)) v405 (ix2 t p)
      = if 0 < v405 (ix3 (0 : Fin 1) t (0 : Fin 1)) then
          -(R (ix2 t p) * R (ix2 t p)) * lit 0x40400000#32
            + (if Ideal.fptosi 32 (v31 (ix3 (0 : Fin 1) t (0 : Fin 1))) = 0#32
                then focal (v17 (ix3 (0 : Fin 1) (0 : Fin 1) p)) else focal (v19 (ix3 (0 : Fin 1) (0 : Fin 1) p)))
        else lit 0x4CBEBC20#32 := by
  pointwise [k0_pay54, k0_pay53, k0_pay49, k0_pay50, k0_pay51, k0_pay52, k0_pay11, k0_pay6, k0_pay7]
  simp only [zero_sub, IntOp.cmpi, select_bit, beq_iff_eq]
  unfold focal
  rw [fptosi_eq]

/-- A target's mask. -/
theorem msk_eq (t : Fin 24) : l.v405 (ix3 (0 : Fin 1) t (0 : Fin 1)) = l.scene.msk t := rfl
/-- A target's label. -/
theorem lab_eq (t : Fin 24) : l.v31 (ix3 (0 : Fin 1) t (0 : Fin 1)) = l.scene.lab t := rfl
/-- A prediction's first class score. -/
theorem l0_eq (p : Fin 5000) : l.v17 (ix3 (0 : Fin 1) (0 : Fin 1) p) = l.scene.l0 p := rfl
/-- A prediction's second class score. -/
theorem l1_eq (p : Fin 5000) : l.v19 (ix3 (0 : Fin 1) (0 : Fin 1) p) = l.scene.l1 p := rfl

/-- The cost matrix. -/
theorem costs_apply (h : l.Transposed) (t : Fin 24) (p : Fin 5000) : l.costs (ix2 t p) = l.scene.cost t p := by
  unfold costs
  rw [costs_read, scores_apply h, msk_eq, lab_eq, l0_eq, l1_eq]
  unfold Scene.cost Scene.cls
  with_reducible rfl

/-- The overlaps, from the summed distances and the counts. -/
theorem overlaps_read (v48 : FVec Ideal S24x1 .f32) (v405 : Vec Ideal S1x24x1 .f32) (S : FVec Ideal S24x5000 .f32)
    (t : Fin 24) (p : Fin 5000) :
    k0_pay57 (k0_pay55 v48 S) (Scalar.ofBits .f32 0x00000000#32) (k0_pay56 v405) (ix2 t p)
      = if 0 < v405 (ix3 (0 : Fin 1) t (0 : Fin 1)) then
          Ideal.div (lit 0x41F00000#32 * v48 (ix2 t (0 : Fin 1)) - S (ix2 t p))
            (lit 0x41F00000#32 * v48 (ix2 t (0 : Fin 1)) + S (ix2 t p) + lit 0x3089705F#32)
        else 0 := by
  pointwise [k0_pay57, k0_pay56, k0_pay53, k0_pay55]

/-- The overlaps. -/
theorem overlaps_apply (h : l.Transposed) (t : Fin 24) (p : Fin 5000) :
    k0_pay57 l.overlaps (Scalar.ofBits .f32 0x00000000#32) (k0_pay56 l.v405) (ix2 t p) = l.scene.overlap t p := by
  unfold overlaps
  rw [overlaps_read, sums_apply h, count_apply, msk_eq]
  unfold Scene.overlap
  with_reducible rfl

/-- A column number is its place. -/
theorem column_apply (t : Fin 24) (p : Fin 5000) : k0_pay58 (F := Ideal) (ix2 t p) = place p := by
  pointwise [k0_pay58]
  exact word_number _ (by omega)

/-- A row number is its place. -/
theorem row_apply (t : Fin 24) (p : Fin 5000) : k0_pay59 (F := Ideal) (ix2 t p) = place t := by
  pointwise [k0_pay59]
  exact word_number _ (by omega)

/-- The value that stands for no place lies above every place. -/
theorem big_5000 : (((5000 : ℕ) : ℝ) : EReal) ≤ lit 0x459C4000#32 := by rw [lit_5000]; exact le_of_eq (by norm_num)

section MaxRounds

variable (v423 : FVec Ideal S24x5000 .f32) (c : Ideal .f32) (v424 : IVec S24x1 1) (t : Fin 24) (a : Fin 5000 → EReal)
  (ha : ∀ p, k0_pay57 v423 c v424 (ix2 t p) = a p) (hs : ∀ p, lit 0xFF61B1E6#32 < a p)

include ha

/-- The row of the first round. -/
theorem row_0 (p : Fin 5000) : k0_pay57 v423 c v424 (ix2 t p) = overwritten a a (lit 0xFF61B1E6#32) 0 p := by
  rw [overwritten_zero, ha]

include hs

/-- The largest entry of round 0. -/
theorem max_0 : k0_pay60 v423 c v424 (ix2 t (0 : Fin 1)) = a (descending a 0) := by
  have hr := row_0 v423 c v424 t a ha
  pointwise [k0_pay60]
  simp only [hr]
  rw [show Ideal.ofBits FTy.f32 4286578688#32 = (⊥ : EReal) from lit_minus_inf]
  exact max_round a _ hs 0

/-- The row of round 1. -/
theorem row_1 (p : Fin 5000) : k0_pay61 v423 c v424 (ix2 t p) = overwritten a a (lit 0xFF61B1E6#32) 1 p := by
  have hr := row_0 v423 c v424 t a ha
  have hm := max_0 v423 c v424 t a ha hs
  have hp : Finset.univ.fold min ⊤ (fun l => if a (descending a 0) ≤ overwritten a a (lit 0xFF61B1E6#32) 0 l
      then place l else lit 0x459C4000#32) = place (descending a 0) := max_round_place a _ hs _ big_5000 0
  have hn : (if place p = place (descending a 0) then lit 0xFF61B1E6#32 else overwritten a a (lit 0xFF61B1E6#32) 0 p)
      = overwritten a a (lit 0xFF61B1E6#32) 1 p := overwritten_succ a a (lit 0xFF61B1E6#32) 0 p
  pointwise [k0_pay61]
  simp only [hr, hm, column_apply]
  rw [show Ideal.ofBits FTy.f32 2139095040#32 = (⊤ : EReal) from lit_inf, hp]
  exact hn

/-- The largest entry of round 1. -/
theorem max_1 : k0_pay62 v423 c v424 (ix2 t (0 : Fin 1)) = a (descending a 1) := by
  have hr := row_1 v423 c v424 t a ha hs
  pointwise [k0_pay62]
  simp only [hr]
  rw [show Ideal.ofBits FTy.f32 4286578688#32 = (⊥ : EReal) from lit_minus_inf]
  exact max_round a _ hs 1

/-- The row of round 2. -/
theorem row_2 (p : Fin 5000) : k0_pay63 v423 c v424 (ix2 t p) = overwritten a a (lit 0xFF61B1E6#32) 2 p := by
  have hr := row_1 v423 c v424 t a ha hs
  have hm := max_1 v423 c v424 t a ha hs
  have hp : Finset.univ.fold min ⊤ (fun l => if a (descending a 1) ≤ overwritten a a (lit 0xFF61B1E6#32) 1 l
      then place l else lit 0x459C4000#32) = place (descending a 1) := max_round_place a _ hs _ big_5000 1
  have hn : (if place p = place (descending a 1) then lit 0xFF61B1E6#32 else overwritten a a (lit 0xFF61B1E6#32) 1 p)
      = overwritten a a (lit 0xFF61B1E6#32) 2 p := overwritten_succ a a (lit 0xFF61B1E6#32) 1 p
  pointwise [k0_pay63]
  simp only [hr, hm, column_apply]
  rw [show Ideal.ofBits FTy.f32 2139095040#32 = (⊤ : EReal) from lit_inf, hp]
  exact hn

/-- The largest entry of round 2. -/
theorem max_2 : k0_pay64 v423 c v424 (ix2 t (0 : Fin 1)) = a (descending a 2) := by
  have hr := row_2 v423 c v424 t a ha hs
  pointwise [k0_pay64]
  simp only [hr]
  rw [show Ideal.ofBits FTy.f32 4286578688#32 = (⊥ : EReal) from lit_minus_inf]
  exact max_round a _ hs 2

/-- The row of round 3. -/
theorem row_3 (p : Fin 5000) : k0_pay66 v423 c v424 (ix2 t p) = overwritten a a (lit 0xFF61B1E6#32) 3 p := by
  have hr := row_2 v423 c v424 t a ha hs
  have hm := max_2 v423 c v424 t a ha hs
  have hp : Finset.univ.fold min ⊤ (fun l => if a (descending a 2) ≤ overwritten a a (lit 0xFF61B1E6#32) 2 l
      then place l else lit 0x459C4000#32) = place (descending a 2) := max_round_place a _ hs _ big_5000 2
  have hn : (if place p = place (descending a 2) then lit 0xFF61B1E6#32 else overwritten a a (lit 0xFF61B1E6#32) 2 p)
      = overwritten a a (lit 0xFF61B1E6#32) 3 p := overwritten_succ a a (lit 0xFF61B1E6#32) 2 p
  pointwise [k0_pay66]
  simp only [hr, hm, column_apply]
  rw [show Ideal.ofBits FTy.f32 2139095040#32 = (⊤ : EReal) from lit_inf, hp]
  exact hn

/-- The four largest entries summed. -/
theorem four_sum : k0_pay65 v423 c v424 (ix2 t (0 : Fin 1))
      + Finset.univ.fold max ⊥ (fun x => k0_pay66 v423 c v424 (ix2 t x))
    = ∑ r : Fin 4, a (descending a (Scene.rank r)) := by
  have h0 := max_0 v423 c v424 t a ha hs
  have h1 := max_1 v423 c v424 t a ha hs
  have h2 := max_2 v423 c v424 t a ha hs
  have hr := row_3 v423 c v424 t a ha hs
  pointwise [k0_pay65]
  simp only [hr, h0, h1, h2]
  have h3 : Finset.univ.fold max ⊥ (overwritten a a (lit 0xFF61B1E6#32) 3) = a (descending a 3) := max_round a _ hs 3
  rw [Fin.sum_univ_four]
  exact congrArg _ h3

end MaxRounds

section MinRounds

variable (v412 : FVec Ideal S24x5000 .f32) (t : Fin 24) (a : Fin 5000 → EReal)
  (ha : ∀ p, v412 (ix2 t p) = a p) (hs : ∀ p, a p < lit 0x7F61B1E6#32)

include ha

/-- The row of the first round. -/
theorem low_0 (p : Fin 5000) : v412 (ix2 t p) = overwritten (fun l => -a l) a (lit 0x7F61B1E6#32) 0 p := by
  rw [overwritten_zero, ha]

include hs

/-- The place of the smallest cost of round 0. -/
theorem least_0 : k0_pay68 v412 (k0_pay58 (F := Ideal)) (ix2 t (0 : Fin 1)) = place (descending (fun l => -a l) 0) := by
  have hr := low_0 v412 t a ha
  have hm : Finset.univ.fold min ⊤ (fun x => overwritten (fun l => -a l) a (lit 0x7F61B1E6#32) 0 x)
      = a (descending (fun l => -a l) 0) := min_round a _ hs 0
  have hp : Finset.univ.fold min ⊤ (fun l => if overwritten (fun l => -a l) a (lit 0x7F61B1E6#32) 0 l
      ≤ a (descending (fun l => -a l) 0) then place l else lit 0x459C4000#32)
      = place (descending (fun l => -a l) 0) := min_round_place a _ hs _ big_5000 0
  pointwise [k0_pay68]
  simp only [hr, column_apply]
  rw [show Ideal.ofBits FTy.f32 2139095040#32 = (⊤ : EReal) from lit_inf, hm]
  exact hp

/-- The row of round 1. -/
theorem low_1 (p : Fin 5000) : k0_pay69 v412 (k0_pay58 (F := Ideal)) (ix2 t p)
    = overwritten (fun l => -a l) a (lit 0x7F61B1E6#32) 1 p := by
  have hr := low_0 v412 t a ha
  have hl := least_0 v412 t a ha hs
  have hn : (if place p = place (descending (fun l => -a l) 0) then lit 0x7F61B1E6#32
      else overwritten (fun l => -a l) a (lit 0x7F61B1E6#32) 0 p)
      = overwritten (fun l => -a l) a (lit 0x7F61B1E6#32) 1 p :=
    overwritten_succ (fun l => -a l) a (lit 0x7F61B1E6#32) 0 p
  pointwise [k0_pay69]
  simp only [hr, hl, column_apply]
  exact hn

/-- The place of the smallest cost of round 1. -/
theorem least_1 : k0_pay70 v412 (k0_pay58 (F := Ideal)) (ix2 t (0 : Fin 1)) = place (descending (fun l => -a l) 1) := by
  have hr := low_1 v412 t a ha hs
  have hm : Finset.univ.fold min ⊤ (fun x => overwritten (fun l => -a l) a (lit 0x7F61B1E6#32) 1 x)
      = a (descending (fun l => -a l) 1) := min_round a _ hs 1
  have hp : Finset.univ.fold min ⊤ (fun l => if overwritten (fun l => -a l) a (lit 0x7F61B1E6#32) 1 l
      ≤ a (descending (fun l => -a l) 1) then place l else lit 0x459C4000#32)
      = place (descending (fun l => -a l) 1) := min_round_place a _ hs _ big_5000 1
  pointwise [k0_pay70]
  simp only [hr, column_apply]
  rw [show Ideal.ofBits FTy.f32 2139095040#32 = (⊤ : EReal) from lit_inf, hm]
  exact hp

/-- The row of round 2. -/
theorem low_2 (p : Fin 5000) : k0_pay71 v412 (k0_pay58 (F := Ideal)) (ix2 t p)
    = overwritten (fun l => -a l) a (lit 0x7F61B1E6#32) 2 p := by
  have hr := low_1 v412 t a ha hs
  have hl := least_1 v412 t a ha hs
  have hn : (if place p = place (descending (fun l => -a l) 1) then lit 0x7F61B1E6#32
      else overwritten (fun l => -a l) a (lit 0x7F61B1E6#32) 1 p)
      = overwritten (fun l => -a l) a (lit 0x7F61B1E6#32) 2 p :=
    overwritten_succ (fun l => -a l) a (lit 0x7F61B1E6#32) 1 p
  pointwise [k0_pay71]
  simp only [hr, hl, column_apply]
  exact hn

/-- The place of the smallest cost of round 2. -/
theorem least_2 : k0_pay72 v412 (k0_pay58 (F := Ideal)) (ix2 t (0 : Fin 1)) = place (descending (fun l => -a l) 2) := by
  have hr := low_2 v412 t a ha hs
  have hm : Finset.univ.fold min ⊤ (fun x => overwritten (fun l => -a l) a (lit 0x7F61B1E6#32) 2 x)
      = a (descending (fun l => -a l) 2) := min_round a _ hs 2
  have hp : Finset.univ.fold min ⊤ (fun l => if overwritten (fun l => -a l) a (lit 0x7F61B1E6#32) 2 l
      ≤ a (descending (fun l => -a l) 2) then place l else lit 0x459C4000#32)
      = place (descending (fun l => -a l) 2) := min_round_place a _ hs _ big_5000 2
  pointwise [k0_pay72]
  simp only [hr, column_apply]
  rw [show Ideal.ofBits FTy.f32 2139095040#32 = (⊤ : EReal) from lit_inf, hm]
  exact hp

/-- The row of round 3. -/
theorem low_3 (p : Fin 5000) : k0_pay73 v412 (k0_pay58 (F := Ideal)) (ix2 t p)
    = overwritten (fun l => -a l) a (lit 0x7F61B1E6#32) 3 p := by
  have hr := low_2 v412 t a ha hs
  have hl := least_2 v412 t a ha hs
  have hn : (if place p = place (descending (fun l => -a l) 2) then lit 0x7F61B1E6#32
      else overwritten (fun l => -a l) a (lit 0x7F61B1E6#32) 2 p)
      = overwritten (fun l => -a l) a (lit 0x7F61B1E6#32) 3 p :=
    overwritten_succ (fun l => -a l) a (lit 0x7F61B1E6#32) 2 p
  pointwise [k0_pay73]
  simp only [hr, hl, column_apply]
  exact hn

/-- The place of the smallest cost of round 3. -/
theorem least_3 : k0_pay74 (k0_pay58 (F := Ideal)) (k0_pay73 v412 (k0_pay58 (F := Ideal))) (ix2 t (0 : Fin 1)) = place (descending (fun l => -a l) 3) := by
  have hr := low_3 v412 t a ha hs
  have hm : Finset.univ.fold min ⊤ (fun x => overwritten (fun l => -a l) a (lit 0x7F61B1E6#32) 3 x)
      = a (descending (fun l => -a l) 3) := min_round a _ hs 3
  have hp : Finset.univ.fold min ⊤ (fun l => if overwritten (fun l => -a l) a (lit 0x7F61B1E6#32) 3 l
      ≤ a (descending (fun l => -a l) 3) then place l else lit 0x459C4000#32)
      = place (descending (fun l => -a l) 3) := min_round_place a _ hs _ big_5000 3
  pointwise [k0_pay74]
  simp only [hr, column_apply]
  rw [show Ideal.ofBits FTy.f32 2139095040#32 = (⊤ : EReal) from lit_inf, hm]
  exact hp

end MinRounds

/-- How many predictions a target takes, from the four largest overlaps summed. -/
theorem quotas_read (v405 : Vec Ideal S1x24x1 .f32) (v461 : FVec Ideal S24x1 .f32) (v471 : FVec Ideal S24x5000 .f32)
    (t : Fin 24) :
    k0_pay67 (k0_pay53 v405) v461 v471 (ix2 t (0 : Fin 1))
      = if 0 < v405 (ix3 (0 : Fin 1) t (0 : Fin 1)) then
          IntOp.maxsi (Ideal.fptosi 32 (v461 (ix2 t (0 : Fin 1)) + Finset.univ.fold max ⊥ fun x => v471 (ix2 t x))) 1#32
        else 0#32 := by
  pointwise [k0_pay67, k0_pay53]
  rw [fptosi_eq, ← lit_minus_inf]

/-- How many predictions a target takes. -/
theorem quotas_apply (h : l.Transposed) (t : Fin 24) : l.quotas (ix2 t (0 : Fin 1)) = l.scene.quota t := by
  unfold quotas
  rw [quotas_read, four_sum _ _ _ t (l.scene.overlap t) (overlaps_apply h t) (l.scene.sentinel_lt_overlap t), msk_eq]
  unfold Scene.quota
  with_reducible rfl

/-- A signed comparison bit, as a number. -/
theorem more_number (q : BitVec 32) (r : ℕ) (hr : r < 4) :
    FloatOps.sitofp (F := Ideal) FTy.f32 (BitVec.setWidth 32 (IntOp.cmpi CmpIPredicate.sgt q (BitVec.ofNat 32 r)))
      = if (r : ℤ) < q.toInt then 1 else 0 := by
  rw [← bit_number]
  congr 3
  show BitVec.ofBool (BitVec.slt (BitVec.ofNat 32 r) q) = _
  rw [BitVec.slt, word_toInt r (by omega)]

/-- The matching of a target and a prediction, from the four places and the quota. -/
theorem matching_read (v429 : FVec Ideal S24x5000 .f32) (v479 : IVec S24x1 32) (v487 v499 v511 v523 : FVec Ideal S24x1 .f32)
    (t : Fin 24) (p : Fin 5000) (i : Fin 4 → Fin 5000) (q : BitVec 32) (hp : v429 (ix2 t p) = place p)
    (hq : v479 (ix2 t (0 : Fin 1)) = q) (h0 : v487 (ix2 t (0 : Fin 1)) = place (i 0))
    (h1 : v499 (ix2 t (0 : Fin 1)) = place (i 1)) (h2 : v511 (ix2 t (0 : Fin 1)) = place (i 2))
    (h3 : v523 (ix2 t (0 : Fin 1)) = place (i 3)) :
    k0_pay77 v429 v523 (k0_pay75 v429 v479 v487 v499 v511) (k0_pay76 v479) (ix2 t p)
      = (((∑ r : Fin 4, if p = i r ∧ (r.val : ℤ) < q.toInt then 1 else 0 : ℕ) : ℝ) : EReal) := by
  rw [← sum_number, Fin.sum_univ_four]
  pointwise [k0_pay77, k0_pay75, k0_pay76]
  rw [hp, h0, h1, h2, h3, hq]
  have e0 := more_number q 0 (by omega)
  have e1 := more_number q 1 (by omega)
  have e2 := more_number q 2 (by omega)
  have e3 := more_number q 3 (by omega)
  simp only [e0, e1, e2, e3, place_inj, hit_number]

/-- How often a target takes a prediction. -/
theorem matching_apply (h : l.Transposed) (t : Fin 24) (p : Fin 5000) :
    k0_pay77 (k0_pay58 (F := Ideal)) l.fourth l.three (k0_pay76 l.quotas) (ix2 t p) = ((l.scene.hits t p : ℝ) : EReal) := by
  unfold three fourth
  rw [matching_read (i := l.scene.cheapest t) (q := l.scene.quota t) (hp := column_apply t p) (hq := quotas_apply h t)
    (h0 := least_0 l.costs t (l.scene.cost t) (costs_apply h t) (l.scene.cost_lt t))
    (h1 := least_1 l.costs t (l.scene.cost t) (costs_apply h t) (l.scene.cost_lt t))
    (h2 := least_2 l.costs t (l.scene.cost t) (costs_apply h t) (l.scene.cost_lt t))
    (h3 := least_3 l.costs t (l.scene.cost t) (costs_apply h t) (l.scene.cost_lt t))]
  unfold Scene.hits
  with_reducible rfl

/-- The choice among the targets, from how often each takes a prediction and what each costs. -/
theorem stored_read (v412 v429 v431 : FVec Ideal S24x5000 .f32) (v523 : FVec Ideal S24x1 .f32)
    (v560 : FVec Ideal S24x5000 .f32) (v562 : IVec S24x1 1) (p : Fin 5000) (m : Fin 24 → ℕ) (c : Fin 24 → EReal)
    (hm : ∀ t, k0_pay77 v429 v523 v560 v562 (ix2 t p) = ((m t : ℝ) : EReal)) (hc : ∀ t, v412 (ix2 t p) = c t)
    (hr : ∀ t, v431 (ix2 t p) = place t) :
    k0_pay1 (k0_pay79 v429 v523 v560 v562) (k0_pay80 v412 v429 v431 v523 v560 v562) (ix3 (0 : Fin 1) (0 : Fin 1) p)
      = given m c := by
  rw [← given_fast]
  pointwise [k0_pay80, k0_pay1, k0_pay79, k0_pay78]
  simp only [hm, hc, hr]
  rw [fptosi_eq, show Ideal.ofBits FTy.f32 2139095040#32 = (⊤ : EReal) from lit_inf]

/-- What the grid step stores for a prediction is the target the prediction is given. -/
theorem stored_apply (h : l.Transposed) (p : Fin 5000) :
    l.stored (ix3 (0 : Fin 1) (0 : Fin 1) p) = l.scene.answer p := by
  unfold stored
  rw [stored_read (hm := fun t => matching_apply h t p) (hc := fun t => costs_apply h t p) (hr := fun t => row_apply t p)]
  unfold Scene.answer
  with_reducible rfl

end Loads

end Cert.Assign

end
-- ==== Proof.Batch.lean ====
module

public import proofs.«01_k».proof.Proof.Spec

/-! # The assignment problem of one batch, from the rows of the arguments

A row of predictions holds two logits, the start (columns 2 and 3), the angle (column 4), the length (column 5) and 72
points; a row of targets is laid out in the same way, its label in column 1. -/

@[expose] public section

noncomputable section

namespace Cert.Assign

open Idealize.ShloMosaic

/-- Column `k + 6` of a row: its point `k`. -/
abbrev col (k : Fin 72) : Fin 78 := ⟨(k : ℕ) + 6, by omega⟩

/-- The assignment problem of the predictions `P`, the targets `T` and the masks `M` in an image of `w` by `h`. -/
def batchScene (P : Fin 5000 → Fin 78 → EReal) (T : Fin 24 → Fin 78 → EReal) (M : Fin 24 → EReal) (w h : EReal) :
    Scene where
  X p k := P p (col k) * (w - 1)
  Y t k := T t (col k) * (w - 1)
  w := w
  px p := P p 2 * (h - 1)
  py p := P p 3 * (w - 1)
  pa p := P p 4
  l0 p := P p 0
  l1 p := P p 1
  tx t := T t 2 * (h - 1)
  ty t := T t 3 * (w - 1)
  ta t := T t 4
  lab t := T t 1
  msk t := M t

end Cert.Assign

end
-- ==== Proof.Array.lean ====
module

public import proofs.«01_k».proof.Proof.Block
public import proofs.«01_k».proof.Proof.Batch
public import proofs.«01_k».proof.Proof.Gen.KernelIdeal.Frame
public import Idealize.ShloMosaic.Lib.Tactic
public import Idealize.ShloMosaic.Lib.Pipeline.Value
public import Idealize.ShloMosaic.Lib.Pipeline.ValueKit
public import Idealize.ShloMosaic.Lib.StableHlo.RunRead
public import Idealize.ShloMosaic.Lib.StableHlo.ReadAt

/-! # What the kernel's result arrays hold -/

@[expose] public section

set_option maxRecDepth 100000

noncomputable section

namespace Cert.Assign

open Idealize.ShloMosaic Idealize.ShloMosaic.TcCoe Cert.KernelIdeal Cert.KernelIdeal.Gen
open Idealize.SL.Sem

variable (m : (ℓ : Loc nD τ sig) → Buf (Elt Ideal) ℓ)

/-- What a grid step loads, from the contents of its blocks. -/
def loadsOf (x0 : Vec Ideal S3 .f32) (x1 : Vec Ideal S1x78x5000 .f32) (x2 : Vec Ideal S1x24x78 .f32)
    (x3 : Vec Ideal S1x78x24 .f32) (x4 : Vec Ideal S1x24x1 .f32) : Loads where
  v0 := View.ld x0 (Rect.unit ![0] ![1] inb_S3_S1_0) (Shape.Idx.first (by decide))
  v1 := View.ld x0 (Rect.unit ![1] ![1] inb_S3_S1_1) (Shape.Idx.first (by decide))
  v2 := View.ld x0 (Rect.unit ![2] ![1] inb_S3_S1_2) (Shape.Idx.first (by decide))
  v3 := View.ld x1 (Rect.unit ![0, 6, 0] S1x72x5000.size inb_S1x78x5000_S1x72x5000_0_6_0)
  v7 := View.ld x1 (Rect.unit ![0, 2, 0] S1x1x5000.size inb_S1x78x5000_S1x1x5000_0_2_0)
  v11 := View.ld x1 (Rect.unit ![0, 3, 0] S1x1x5000.size inb_S1x78x5000_S1x1x5000_0_3_0)
  v15 := View.ld x1 (Rect.unit ![0, 4, 0] S1x1x5000.size inb_S1x78x5000_S1x1x5000_0_4_0)
  v17 := View.ld x1 (Rect.unit ![0, 0, 0] S1x1x5000.size inb_S1x78x5000_S1x1x5000_0_0_0)
  v19 := View.ld x1 (Rect.unit ![0, 1, 0] S1x1x5000.size inb_S1x78x5000_S1x1x5000_0_1_0)
  v21 := View.ld x2 (Rect.unit ![0, 0, 2] S1x24x1.size inb_S1x24x78_S1x24x1_0_0_2)
  v25 := View.ld x2 (Rect.unit ![0, 0, 3] S1x24x1.size inb_S1x24x78_S1x24x1_0_0_3)
  v29 := View.ld x2 (Rect.unit ![0, 0, 4] S1x24x1.size inb_S1x24x78_S1x24x1_0_0_4)
  v31 := View.ld x2 (Rect.unit ![0, 0, 1] S1x24x1.size inb_S1x24x78_S1x24x1_0_0_1)
  v36 := View.ld x2 (Rect.unit ![0, 0, 6] S1x24x72.size inb_S1x24x78_S1x24x72_0_0_6)
  v49 := View.ld x3 (Rect.unit ![0, 6, 0] S1x72x24.size inb_S1x78x24_S1x72x24_0_6_0)
  v405 := View.ld x4 (Rect.unit ![0, 0, 0] S1x24x1.size inb_S1x24x1_S1x24x1_0_0_0)

/-- The one store of a grid step: its whole result block. -/
theorem pieces_eq (c : Dev nD) (i : grid0.Coords) (arg1 : Memref sig .tc .smem S3 .f32) (harg1 : arg1.IsWhole) (arg2 : Memref sig .tc .vmem S1x78x5000 .f32) (harg2 : arg2.IsWhole) (arg3 : Memref sig .tc .vmem S1x24x78 .f32) (harg3 : arg3.IsWhole) (arg4 : Memref sig .tc .vmem S1x78x24 .f32) (harg4 : arg4.IsWhole) (arg5 : Memref sig .tc .vmem S1x24x1 .f32) (harg5 : arg5.IsWhole) (arg6 : Memref sig .tc .vmem S1x1x5000 .i32) (harg6 : arg6.IsWhole)
    (x0 : Vec Ideal S3 .f32) (x1 : Vec Ideal S1x78x5000 .f32) (x2 : Vec Ideal S1x24x78 .f32) (x3 : Vec Ideal S1x78x24 .f32) (x4 : Vec Ideal S1x24x1 .f32) :
    (kernelRun0_A c i arg1 harg1 arg2 harg2 arg3 harg3 arg4 harg4 arg5 harg5 arg6 harg6 x0 x1 x2 x3 x4).1
      = [⟨Rect.unit ![0, 0, 0] S1x1x5000.size inb_S1x1x5000_S1x1x5000_0_0_0,
          (loadsOf (arg1.view.read (Elt Ideal) (harg1.unread x0)) (arg2.view.read (Elt Ideal) (harg2.unread x1))
            (arg3.view.read (Elt Ideal) (harg3.unread x2)) (arg4.view.read (Elt Ideal) (harg4.unread x3))
            (arg5.view.read (Elt Ideal) (harg5.unread x4))).stored⟩] := by
  unfold kernelRun0_A
  dsimp only
  sl_unfold_words
  simp only [View.readAt_eq_ld]
  simp only [Loads.stored, Loads.fourth, Loads.three, Loads.quotas, Loads.overlaps, Loads.costs, Loads.scores, Loads.relative, Loads.sums, gaps, loadsOf]

variable (m : (ℓ : Loc nD τ sig) → Buf (Elt Ideal) ℓ)

/-- The zero offset of a three-axis block. -/
theorem hz : (![0, 0, 0] : Fin 3 → Nat) = fun _ => 0 := funext fun a => by fin_cases a <;> rfl

/-- What the grid step at point `t` loads. -/
def loadsAt (c : Dev nD) (t : Fin cfg0.N) : Loads :=
  loadsOf (iblk m c 0 t) (iblk m c 1 t) (iblk m c 2 t) (iblk m c 3 t) (iblk m c 4 t)

/-- What the grid step at point `t` leaves in the result's block. -/
theorem outsAt_eq (c : Dev nD) (t : Fin cfg0.N) : outsAt0 m c t = (loadsAt m c t).stored := by
  unfold outsAt0 out0_A_5
  rw [View.read_writes_eq_canon _ _ _ (cover0_A_5 c _ _ _ _ _ _ _ _ _ _ _ _ _ _ _ _ _ _), pieces_eq,
    View.canon_unit_zero hz, (hs0_0 t).read_unread, (hs0_1 t).read_unread, (hs0_2 t).read_unread,
    (hs0_3 t).read_unread, (hs0_4 t).read_unread, loadsAt]

/-- Each window's block index at a grid point: window 0 is the whole array, the others go batch by batch. -/
theorem index_0 : ∀ t : Fin cfg0.N, win0_0.index t (0 : Fin 1) = 0 := (by decide +kernel : ∀ t : Fin grid0.N, _)
/-- Grid step `t` reads block `t` of the predictions. -/
theorem index_1 : ∀ t : Fin cfg0.N, win0_1.index t = ![(t : ℕ), 0, 0] := (by decide +kernel : ∀ t : Fin grid0.N, _)
/-- Grid step `t` reads block `t` of the targets. -/
theorem index_2 : ∀ t : Fin cfg0.N, win0_2.index t = ![(t : ℕ), 0, 0] := (by decide +kernel : ∀ t : Fin grid0.N, _)
/-- Grid step `t` reads block `t` of the transposed targets. -/
theorem index_3 : ∀ t : Fin cfg0.N, win0_3.index t = ![(t : ℕ), 0, 0] := (by decide +kernel : ∀ t : Fin grid0.N, _)
/-- Grid step `t` reads block `t` of the masks. -/
theorem index_4 : ∀ t : Fin cfg0.N, win0_4.index t = ![(t : ℕ), 0, 0] := (by decide +kernel : ∀ t : Fin grid0.N, _)
/-- Grid step `t` writes block `t` of the result. -/
theorem index_5 : ∀ t : Fin cfg0.N, win0_5.index t = ![(t : ℕ), 0, 0] := (by decide +kernel : ∀ t : Fin grid0.N, _)

/-- The batch of a grid point. -/
def batch (t : Fin cfg0.N) : Fin 2 := ⟨t, lt_of_lt_of_eq t.isLt N_0⟩

/-- The host's arrays as the kernel is launched: the scalars, the transposed arguments and the reshaped masks. -/
theorem entry_v8 (c : Dev nD) : V m c main_v8 = transpose S2x78x5000 [0, 2, 1] (m ((c : Thread nD τ).loc main_arg0))
    transposes_S2x5000x78_S2x78x5000_0_2_1 := by
  show StableHlo.after hostOps0 (fun b => m (c, b)) (Proc.devRef .tc main_v8) = _
  after_reads_simp

/-- The transposed targets as the grid finds them. -/
theorem entry_v9 (c : Dev nD) : V m c main_v9 = transpose S2x78x24 [0, 2, 1] (m ((c : Thread nD τ).loc main_arg1))
    transposes_S2x24x78_S2x78x24_0_2_1 := by
  show StableHlo.after hostOps0 (fun b => m (c, b)) (Proc.devRef .tc main_v9) = _
  after_reads_simp

/-- The masks as the grid finds them. -/
theorem entry_v10 (c : Dev nD) : V m c main_v10
    = shapeCast S2x24x1 (m ((c : Thread nD τ).loc main_arg2)) shapeCasts_S2x24_S2x24x1 := by
  show StableHlo.after hostOps0 (fun b => m (c, b)) (Proc.devRef .tc main_v10) = _
  after_reads_simp
  rfl

/-- Every element of a block of predictions is the batch's. -/
theorem block_1 (c : Dev nD) (t : Fin cfg0.N) (k : Fin 78) (p : Fin 5000) :
    iblk m c 1 t (ix3 (0 : Fin 1) k p) = m ((c : Thread nD τ).loc main_arg0) (ix3 (batch t) p k) := by
  have e : iblk m c 1 t (ix3 (0 : Fin 1) k p) = V m c main_v8 (ix3 (batch t) k p) := by
    show V m c main_v8 (((cfg0.win 1).blk t).view.emb (ix3 (0 : Fin 1) k p)) = _
    congr 1
    blk_ext [index_1 t, batch]
  rw [e, entry_v8]
  pointwise

/-- An element of a block of the targets. -/
theorem block_2 (c : Dev nD) (t : Fin cfg0.N) (s : Fin 24) (k : Fin 78) :
    iblk m c 2 t (ix3 (0 : Fin 1) s k) = m ((c : Thread nD τ).loc main_arg1) (ix3 (batch t) s k) := by
  have e : iblk m c 2 t (ix3 (0 : Fin 1) s k) = V m c main_arg1 (ix3 (batch t) s k) := by
    show V m c main_arg1 (((cfg0.win 2).blk t).view.emb (ix3 (0 : Fin 1) s k)) = _
    congr 1
    blk_ext [index_2 t, batch]
  rw [e, V_main_arg1]

/-- An element of a block of the transposed targets. -/
theorem block_3 (c : Dev nD) (t : Fin cfg0.N) (k : Fin 78) (s : Fin 24) :
    iblk m c 3 t (ix3 (0 : Fin 1) k s) = m ((c : Thread nD τ).loc main_arg1) (ix3 (batch t) s k) := by
  have e : iblk m c 3 t (ix3 (0 : Fin 1) k s) = V m c main_v9 (ix3 (batch t) k s) := by
    show V m c main_v9 (((cfg0.win 3).blk t).view.emb (ix3 (0 : Fin 1) k s)) = _
    congr 1
    blk_ext [index_3 t, batch]
  rw [e, entry_v9]
  pointwise

/-- An element of a block of the masks. -/
theorem block_4 (c : Dev nD) (t : Fin cfg0.N) (s : Fin 24) :
    iblk m c 4 t (ix3 (0 : Fin 1) s (0 : Fin 1)) = m ((c : Thread nD τ).loc main_arg2) (ix2 (batch t) s) := by
  have e : iblk m c 4 t (ix3 (0 : Fin 1) s (0 : Fin 1)) = V m c main_v10 (ix3 (batch t) s (0 : Fin 1)) := by
    show V m c main_v10 (((cfg0.win 4).blk t).view.emb (ix3 (0 : Fin 1) s (0 : Fin 1))) = _
    congr 1
    blk_ext [index_4 t, batch]
  rw [e, entry_v10]
  pointwise

/-- A window of one element of the first operand: the three scalars. -/
theorem block_0 (c : Dev nD) (t : Fin cfg0.N) (k : Fin 3) : iblk m c 0 t (ix1 k) = V m c main_v7 (ix1 k) := by
  show V m c main_v7 (((cfg0.win 0).blk t).view.emb (ix1 k)) = _
  congr 1
  blk_ext [index_0 t]

/-- The width and the height of the image. -/
def width (c : Dev nD) : Ideal .f32 := FloatOps.sitofp .f32 (m ((c : Thread nD τ).loc main_arg3) ix0)
/-- The height of the image as a number. -/
def height (c : Dev nD) : Ideal .f32 := FloatOps.sitofp .f32 (m ((c : Thread nD τ).loc main_arg4) ix0)

/-- The first scalar the grid reads: the width less 1. -/
theorem entry_v7_0 (c : Dev nD) : V m c main_v7 (ix1 (0 : Fin 3)) = width m c - 1 := by
  show (StableHlo.after hostOps0 (fun b => m (c, b)) (Proc.devRef .tc main_v7) : Vec Ideal S3 .f32) _ = _
  after_reads_at
  after_reads_at
  rfl

/-- The second scalar the grid reads: the height less 1. -/
theorem entry_v7_1 (c : Dev nD) : V m c main_v7 (ix1 (1 : Fin 3)) = height m c - 1 := by
  show (StableHlo.after hostOps0 (fun b => m (c, b)) (Proc.devRef .tc main_v7) : Vec Ideal S3 .f32) _ = _
  after_reads_at
  after_reads_at
  rfl

/-- The third scalar the grid reads: the width. -/
theorem entry_v7_2 (c : Dev nD) : V m c main_v7 (ix1 (2 : Fin 3)) = width m c := by
  show (StableHlo.after hostOps0 (fun b => m (c, b)) (Proc.devRef .tc main_v7) : Vec Ideal S3 .f32) _ = _
  after_reads_at
  after_reads_at
  rfl

/-- The assignment problem of batch `b`. -/
def sceneAt (c : Dev nD) (b : Fin 2) : Scene :=
  batchScene (fun p k => m ((c : Thread nD τ).loc main_arg0) (ix3 b p k))
    (fun t k => m ((c : Thread nD τ).loc main_arg1) (ix3 b t k))
    (fun t => m ((c : Thread nD τ).loc main_arg2) (ix2 b t)) (width m c) (height m c)

section Fields

variable (c : Dev nD) (t : Fin cfg0.N)

/-- The first scalar loaded. -/
theorem v0_eq : (loadsAt m c t).v0 = width m c - 1 := by
  rw [← entry_v7_0, ← block_0 m c t]
  unfold loadsAt loadsOf
  dsimp only
  refine View.ld_unit_apply_of _ _ _ _ _ (ix1 (0 : Fin 3)) ?_
  intro a; fin_cases a; rfl

/-- The second scalar loaded. -/
theorem v1_eq : (loadsAt m c t).v1 = height m c - 1 := by
  rw [← entry_v7_1, ← block_0 m c t]
  unfold loadsAt loadsOf
  dsimp only
  refine View.ld_unit_apply_of _ _ _ _ _ (ix1 (1 : Fin 3)) ?_
  intro a; fin_cases a; rfl

/-- The third scalar loaded. -/
theorem v2_eq : (loadsAt m c t).v2 = width m c := by
  rw [← entry_v7_2, ← block_0 m c t]
  unfold loadsAt loadsOf
  dsimp only
  refine View.ld_unit_apply_of _ _ _ _ _ (ix1 (2 : Fin 3)) ?_
  intro a; fin_cases a; rfl

/-- The points of the predictions, loaded. -/
theorem v3_eq (k : Fin 72) (p : Fin 5000) : (loadsAt m c t).v3 (ix3 (0 : Fin 1) k p)
    = m ((c : Thread nD τ).loc main_arg0) (ix3 (batch t) p (col k)) := by
  rw [← block_1 m c t]
  unfold loadsAt loadsOf
  dsimp only
  refine View.ld_unit_apply_of _ _ _ _ _ (ix3 (0 : Fin 1) (col k) p) ?_
  intro a; fin_cases a <;> simp [ix3, col] <;> omega

/-- A row of predictions loaded alone. -/
theorem row_eq (k : Fin 78) (inb : _) (p : Fin 5000) :
    View.ld (iblk m c 1 t) (Rect.unit ![0, (k : ℕ), 0] S1x1x5000.size inb) (ix3 (0 : Fin 1) (0 : Fin 1) p)
    = m ((c : Thread nD τ).loc main_arg0) (ix3 (batch t) p k) := by
  rw [← block_1 m c t]
  exact View.ld_unit_apply_of _ _ _ _ _ (ix3 (0 : Fin 1) k p)
    (by intro a; fin_cases a <;> simp [ix3] <;> omega)

/-- A column of targets loaded alone. -/
theorem column_eq (k : Fin 78) (inb : _) (s : Fin 24) :
    View.ld (iblk m c 2 t) (Rect.unit ![0, 0, (k : ℕ)] S1x24x1.size inb) (ix3 (0 : Fin 1) s (0 : Fin 1))
    = m ((c : Thread nD τ).loc main_arg1) (ix3 (batch t) s k) := by
  rw [← block_2 m c t]
  exact View.ld_unit_apply_of _ _ _ _ _ (ix3 (0 : Fin 1) s k)
    (by intro a; fin_cases a <;> simp [ix3] <;> omega)

/-- The points of the targets, loaded. -/
theorem v36_eq (s : Fin 24) (k : Fin 72) : (loadsAt m c t).v36 (ix3 (0 : Fin 1) s k)
    = m ((c : Thread nD τ).loc main_arg1) (ix3 (batch t) s (col k)) := by
  rw [← block_2 m c t]
  unfold loadsAt loadsOf
  dsimp only
  refine View.ld_unit_apply_of _ _ _ _ _ (ix3 (0 : Fin 1) s (col k)) ?_
  intro a; fin_cases a <;> simp [ix3, col] <;> omega

/-- The points of the targets, loaded from the transposed array. -/
theorem v49_eq (k : Fin 72) (s : Fin 24) : (loadsAt m c t).v49 (ix3 (0 : Fin 1) k s)
    = m ((c : Thread nD τ).loc main_arg1) (ix3 (batch t) s (col k)) := by
  rw [← block_3 m c t]
  unfold loadsAt loadsOf
  dsimp only
  refine View.ld_unit_apply_of _ _ _ _ _ (ix3 (0 : Fin 1) (col k) s) ?_
  intro a; fin_cases a <;> simp [ix3, col] <;> omega

/-- The masks, loaded. -/
theorem v405_eq (s : Fin 24) : (loadsAt m c t).v405 (ix3 (0 : Fin 1) s (0 : Fin 1))
    = m ((c : Thread nD τ).loc main_arg2) (ix2 (batch t) s) := by
  rw [← block_4 m c t]
  unfold loadsAt loadsOf
  dsimp only
  refine View.ld_unit_apply_of _ _ _ _ _ (ix3 (0 : Fin 1) s (0 : Fin 1)) ?_
  intro a; fin_cases a <;> simp [ix3]

/-- The transposed targets hold the points of the targets. -/
theorem transposed : (loadsAt m c t).Transposed := fun s k => (v49_eq m c t k s).trans (v36_eq m c t s k).symm

/-- The pieces that a grid step loads pose its batch's assignment problem. -/
theorem scene_eq : (loadsAt m c t).scene = sceneAt m c (batch t) := by
  unfold Loads.scene sceneAt batchScene
  congr 1
  · funext p k; rw [v3_eq, v0_eq]
  · funext s k; rw [v36_eq, v0_eq]
  · exact v2_eq m c t
  · funext p; rw [v1_eq]; exact congrArg (· * _) (row_eq m c t 2 _ p)
  · funext p; rw [v0_eq]; exact congrArg (· * _) (row_eq m c t 3 _ p)
  · funext p; exact row_eq m c t 4 _ p
  · funext p; exact row_eq m c t 0 _ p
  · funext p; exact row_eq m c t 1 _ p
  · funext s; rw [v1_eq]; exact congrArg (· * _) (column_eq m c t 2 _ s)
  · funext s; rw [v0_eq]; exact congrArg (· * _) (column_eq m c t 3 _ s)
  · funext s; exact column_eq m c t 4 _ s
  · funext s; exact column_eq m c t 1 _ s
  · funext s; exact v405_eq m c t s

end Fields

/-- The kernel's result: the answer of each batch. -/
def answers (c : Dev nD) : IVec S2x1x5000 32 := fun i => (sceneAt m c (i 0)).answer (i 2)

/-- What a grid step leaves at an element of the result's block. -/
theorem stored_at (c : Dev nD) (t : Fin cfg0.N) (y : S1x1x5000.Idx) :
    (loadsAt m c t).stored y = (sceneAt m c (batch t)).answer (y 2) := by
  obtain ⟨p, rfl⟩ : ∃ p : Fin 5000, y = ix3 (0 : Fin 1) (0 : Fin 1) p := ⟨y 2, by
    funext a
    fin_cases a
    · exact Subsingleton.elim (α := Fin 1) _ _
    · exact Subsingleton.elim (α := Fin 1) _ _
    · rfl⟩
  rw [Loads.stored_apply (transposed m c t), scene_eq]
  rfl

/-- What the result array holds after the grid. -/
theorem array_eq (c : Dev nD) : (dats m 0 c).arrAt 5 cfg0.N = answers m c := by
  refine (dats m 0 c).arrAt_eq_of_covers 5 _ (by decide +kernel) fun t hf y => ?_
  blk_simp
  rw [after0_5, outsAt_eq]
  have h0 : ((win0_5.blk t).view.emb y) 0 = batch t := by
    apply Fin.ext
    blk_simp [index_5 t, batch]
  have h2 : ((win0_5.blk t).view.emb y) 2 = y 2 := by
    apply Fin.ext
    blk_simp [index_5 t]
  refine (stored_at m c t y).trans ?_
  unfold answers
  rw [h0, h2]

/-- The result array as the lines after the grid find it. -/
theorem tail_v11 (c : Dev nD) :
    Pipeline.withArrays (cfgs 0).spec c (V0 m c) (fun w => (dats m 0 c).arrAt w (cfgs 0).N) (Proc.devRef .tc main_v11)
      = answers m c :=
  (Pipeline.withArrays_arr (cfgs 0).spec (by decide) c (V0 m c) (fun w => (dats m 0 c).arrAt w (cfgs 0).N) 5).trans
    (array_eq m c)

/-- The kernel's second result: the answers, batch by batch. -/
theorem tail_v12 (c : Dev nD) :
    (Pipeline.afterTail₀ cfgs (dats m) 0 (V0 m) [hostOps1] c main_v12 : IVec S2x5000 32)
      = shapeCast S2x5000 (answers m c) shapeCasts_S2x1x5000_S2x5000 := by
  unfold Pipeline.afterTail₀
  show StableHlo.after hostOps1 _ (Proc.devRef .tc main_v12) = _
  after_reads_simp
  rw [tail_v11]
  rfl

/-- The kernel's first result: which predictions are given a target. -/
theorem tail_v14 (c : Dev nD) :
    (Pipeline.afterTail₀ cfgs (dats m) 0 (V0 m) [hostOps1] c main_v14 : IVec S2x5000 1)
      = cmpi .sge (shapeCast S2x5000 (answers m c) shapeCasts_S2x1x5000_S2x5000)
        (broadcastInDim S2x5000 ![] bcast_S_S2x5000 (constantI S_ 32 0#32)) := by
  unfold Pipeline.afterTail₀
  show StableHlo.after hostOps1 _ (Proc.devRef .tc main_v14) = _
  after_reads_simp
  rw [tail_v11]
  rfl

/-- The second result at an element. -/
theorem cast_answers (c : Dev nD) (b : Fin 2) (p : Fin 5000) :
    shapeCast S2x5000 (answers m c) shapeCasts_S2x1x5000_S2x5000 (ix2 b p) = (sceneAt m c b).answer p := by
  pointwise
  rfl

end Cert.Assign

end
-- ==== Proof.RefDist.lean ====
module

public import proofs.«01_k».proof.Proof.Gaps
public import proofs.«01_k».proof.Proof.Batch
public import proofs.«01_k».proof.Proof.Gen.ReferenceIdeal.Read
public import Idealize.ShloMosaic.Lib.Pointwise

/-!
# The three relative distances of the plain program

The plain program's intermediate arrays, entry by entry, up to the product of the three scores.
-/

@[expose] public section

set_option maxRecDepth 100000

noncomputable section

namespace Cert.Assign

open Idealize.ShloMosaic

/-- Counting bits with words. -/
theorem fold_count {ι : Type} (A : Finset ι) (P : ι → Prop) [DecidablePred P] :
    A.fold IntOp.addi 0#32 (fun k => BitVec.setWidth 32 (BitVec.ofBool (decide (P k))))
      = BitVec.ofNat 32 (∑ k ∈ A, if P k then 1 else 0) := by
  classical
  induction A using Finset.induction_on with
  | empty => simp
  | insert a A ha ih =>
    rw [Finset.fold_insert ha, ih, Finset.sum_insert ha, BitVec.ofNat_add]
    by_cases h : P a <;> simp [h, IntOp.addi]

/-- A count of at most 72 bits, as a number. -/
theorem count_number (P : Fin 72 → Prop) [DecidablePred P] :
    FloatOps.sitofp (F := Ideal) FTy.f32 (Finset.univ.fold IntOp.addi 0#32
      (fun k => BitVec.setWidth 32 (BitVec.ofBool (decide (P k))))) = ∑ k, if P k then (1 : EReal) else 0 := by
  rw [fold_count, word_number, ← sum_number]
  · refine Finset.sum_congr rfl fun k _ => ?_
    split <;> simp
  · calc ∑ k : Fin 72, (if P k then 1 else 0) ≤ ∑ _ : Fin 72, 1 := Finset.sum_le_sum fun k _ => by split <;> omega
      _ < _ := by simp

/-- Two comparison bits and their conjunction. -/
theorem andi_decide (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

/-- A comparison bit read as a number is 1 or 0. -/
theorem bit_value (P : Prop) [Decidable P] :
    FloatOps.uitofp (F := Ideal) FTy.f32 (BitVec.ofBool (decide P)) = if P then 1 else 0 := by
  show (((BitVec.ofBool (decide P)).toNat : ℝ) : EReal) = _
  by_cases h : P <;> simp [h]

/-- The largest entry of a matrix, with the two indices in the other order. -/
theorem peak_swap (g : Fin 24 → Fin 5000 → EReal) :
    Finset.univ.fold max (Ideal.ofBits FTy.f32 4286578688#32) (fun x : Fin 5000 × Fin 24 => g x.2 x.1) = peak g := by
  rw [show Ideal.ofBits FTy.f32 4286578688#32 = (⊥ : EReal) from lit_minus_inf]
  have : (fun x : Fin 5000 × Fin 24 => g x.2 x.1) = (fun x : Fin 24 × Fin 5000 => g x.1 x.2) ∘ (Equiv.prodComm _ _).toEmbedding := rfl
  rw [this, ← Finset.fold_map, Finset.map_univ_equiv]
  rfl

/-- A score, the largest entry taken in the other order. -/
theorem score_swap (g : Fin 24 → Fin 5000 → EReal) (t : Fin 24) (p : Fin 5000) :
    max (lit 981668463#32) (1 - Ideal.div (g t p) (max (lit 841731191#32)
      (Finset.univ.fold max (Ideal.ofBits FTy.f32 4286578688#32) (fun x : Fin 5000 × Fin 24 => g x.2 x.1)))
        + Ideal.ofBits FTy.f32 1008981770#32) = score g t p := by
  rw [peak_swap, max_comm, max_comm (lit 841731191#32)]
  unfold score
  with_reducible rfl

/-- The larger of two numbers. -/
theorem maximumf_eq (x y : Ideal .f32) : FloatOps.maximumf x y = max x y := rfl

/-- The constant 1. -/
theorem lit_one : lit 1065353216#32 = 1 := by
  simp [lit, Ideal.ofBits, Ideal.ieee, -EReal.coe_mul]; norm_num

namespace Ref

open Cert.ReferenceIdeal Cert.ReferenceIdeal.Read

variable (x0 : (⟨S2x5000x78, .f32⟩ : BufTy).Contents (Elt Ideal)) (x1 : (⟨S2x24x78, .f32⟩ : BufTy).Contents (Elt Ideal))
  (x2 : (⟨S2x24, .f32⟩ : BufTy).Contents (Elt Ideal)) (x3 x4 : (⟨S_, .i32⟩ : BufTy).Contents (Elt Ideal))

/-- A constant, read. -/
theorem constant_value (x : BitVec 32) : id (constant (F := Ideal) S_ .f32 x) ix0 = lit x := rfl

/-- The scene of one batch entry of the plain program. -/
def scene (b : Fin 2) : Scene := batchScene (fun p k => x0 (ix3 b p k)) (fun t k => x1 (ix3 b t k))
  (fun t => x2 (ix2 b t)) (FloatOps.sitofp (F := Ideal) .f32 (x3 ix0)) (FloatOps.sitofp (F := Ideal) .f32 (x4 ix0))

/-- The width less 1, as the points of the predictions take it. -/
theorem width_less : val_main_v3 x3 ix0 = FloatOps.sitofp (F := Ideal) .f32 (x3 ix0) - (1 : EReal) := by
  show val_main_v2 x3 ix0 = _
  pointwise [val_main_v2, val_main_v1, val_main_cst]
/-- The width less 1, as the points of the targets take it. -/
theorem width_less_9 : val_main_v9 x3 ix0 = FloatOps.sitofp (F := Ideal) .f32 (x3 ix0) - (1 : EReal) := width_less x3
/-- The width less 1, as the starts of the predictions take it. -/
theorem width_less_23 : val_main_v23 x3 ix0 = FloatOps.sitofp (F := Ideal) .f32 (x3 ix0) - (1 : EReal) := width_less x3
/-- The width less 1, as the starts of the targets take it. -/
theorem width_less_37 : val_main_v37 x3 ix0 = FloatOps.sitofp (F := Ideal) .f32 (x3 ix0) - (1 : EReal) := width_less x3
/-- The height less 1, as the starts of the predictions take it. -/
theorem height_less_16 : val_main_v16 x4 ix0 = FloatOps.sitofp (F := Ideal) .f32 (x4 ix0) - (1 : EReal) := width_less x4
/-- The height less 1, as the starts of the targets take it. -/
theorem height_less_30 : val_main_v30 x4 ix0 = FloatOps.sitofp (F := Ideal) .f32 (x4 ix0) - (1 : EReal) := width_less x4

include x0 x1 x2 x3 x4 in
/-- The points of the predictions, in pixels. -/
theorem points_apply (b : Fin 2) (p : Fin 5000) (k : Fin 72) :
    val_main_v5 x0 x3 (ix3 b p k) = (scene x0 x1 x2 x3 x4 b).X p k := by
  pointwise [val_main_v5, val_main_v4, val_main_v0]
  rw [width_less]
  have : (⟨6 + (k : ℕ), by omega⟩ : Fin 78) = col k := by ext; simp [col]; omega
  rw [this]
  rfl

include x0 x1 x2 x3 x4 in
/-- The points of the targets, in pixels. -/
theorem targets_apply (b : Fin 2) (t : Fin 24) (k : Fin 72) :
    val_main_v11 x1 x3 (ix3 b t k) = (scene x0 x1 x2 x3 x4 b).Y t k := by
  pointwise [val_main_v11, val_main_v10, val_main_v6]
  rw [width_less_9]
  have : (⟨6 + (k : ℕ), by omega⟩ : Fin 78) = col k := by ext; simp [col]; omega
  rw [this]
  rfl

include x0 x1 x2 x3 x4 in
/-- The first start coordinate of a prediction. -/
theorem px_apply (b : Fin 2) (p : Fin 5000) : val_main_v18 x0 x4 (ix2 b p) = (scene x0 x1 x2 x3 x4 b).px p := by
  pointwise [val_main_v18, val_main_v17, val_main_v13, val_main_v12]
  rw [height_less_16]
  rfl

include x0 x1 x2 x3 x4 in
/-- The second start coordinate of a prediction. -/
theorem py_apply (b : Fin 2) (p : Fin 5000) : val_main_v25 x0 x3 (ix2 b p) = (scene x0 x1 x2 x3 x4 b).py p := by
  pointwise [val_main_v25, val_main_v24, val_main_v20, val_main_v19]
  rw [width_less_23]
  rfl

include x0 x1 x2 x3 x4 in
/-- The first start coordinate of a target. -/
theorem tx_apply (b : Fin 2) (t : Fin 24) : val_main_v32 x1 x4 (ix2 b t) = (scene x0 x1 x2 x3 x4 b).tx t := by
  pointwise [val_main_v32, val_main_v31, val_main_v27, val_main_v26]
  rw [height_less_30]
  rfl

include x0 x1 x2 x3 x4 in
/-- The second start coordinate of a target. -/
theorem ty_apply (b : Fin 2) (t : Fin 24) : val_main_v39 x1 x3 (ix2 b t) = (scene x0 x1 x2 x3 x4 b).ty t := by
  pointwise [val_main_v39, val_main_v38, val_main_v34, val_main_v33]
  rw [width_less_37]
  rfl

include x0 x1 x2 x3 x4 in
/-- The bit of a target's point in the image. -/
theorem inside_apply (b : Fin 2) (t : Fin 24) (k : Fin 72) :
    val_main_v46 x1 x3 (ix4 b 0 t k) = BitVec.ofBool (decide ((scene x0 x1 x2 x3 x4 b).inside t k)) := by
  pointwise [val_main_v46, val_main_v45, val_main_v44, val_main_v43, val_main_v42, val_main_v41, val_main_v40, val_main_cst_5]
  rw [andi_decide, targets_apply x0 x1 x2 x3 x4]
  rfl

include x0 x1 x2 x3 x4 in
/-- The number of a target's points in the image, at least 1. -/
theorem count_apply (b : Fin 2) (t : Fin 24) :
    val_main_v50 x1 x3 (ix3 b 0 t) = max ((scene x0 x1 x2 x3 x4 b).count t) 1 := by
  rw [val_main_v50_apply, maximumf_eq]
  pointwise [val_main_call0_v1, val_main_call0_v0, val_main_v49, val_main_v48, val_main_v47, val_main_c, val_main_cst_6]
  simp only [inside_apply x0 x1 x2 x3 x4]
  rw [count_number]
  rw [constant_value, lit_one, max_comm]
  rfl

include x0 x1 x2 x3 x4 in
/-- The summed distances. -/
theorem gap_apply (b : Fin 2) (p : Fin 5000) (t : Fin 24) :
    val_main_v60 x0 x1 x3 (ix3 b p t) = (scene x0 x1 x2 x3 x4 b).gap t p := by
  pointwise [val_main_v60, val_main_v59, val_main_v58, val_main_v57, val_main_v56, val_main_v55, val_main_v54, val_main_v53, val_main_v52, val_main_v51, val_main_cst_7]
  simp only [inside_apply x0 x1 x2 x3 x4, points_apply x0 x1 x2 x3 x4, targets_apply x0 x1 x2 x3 x4, bit_value, absf_eq]
  rfl

include x0 x1 x2 x3 x4 in
/-- The mean distances of the points. -/
theorem dist_apply (b : Fin 2) (p : Fin 5000) (t : Fin 24) :
    val_main_v62 x0 x1 x3 (ix3 b p t) = (scene x0 x1 x2 x3 x4 b).dist t p := by
  pointwise [val_main_v62, val_main_v61]
  rw [gap_apply x0 x1 x2 x3 x4, count_apply x0 x1 x2 x3 x4]
  rfl

include x0 x1 x2 x3 x4 in
/-- The distances of the starts. -/
theorem start_apply (b : Fin 2) (p : Fin 5000) (t : Fin 24) :
    val_main_v87 x0 x1 x3 x4 (ix3 b p t) = (scene x0 x1 x2 x3 x4 b).start t p := by
  rw [val_main_v87_apply, val_main_v86_apply, maximumf_eq]
  pointwise [val_main_v85, val_main_v84, val_main_v83, val_main_v82, val_main_v81, val_main_v80, val_main_v79, val_main_v78, val_main_v77, val_main_v76, val_main_v75, val_main_v74, val_main_v73, val_main_v72, val_main_cst_12, val_main_cst_13]
  simp only [Finset.univ_unique, Finset.sum_singleton]
  rw [px_apply x0 x1 x2 x3 x4, py_apply x0 x1 x2 x3 x4, tx_apply x0 x1 x2 x3 x4, ty_apply x0 x1 x2 x3 x4]
  rfl

include x0 x1 x2 x3 x4 in
/-- The distances of the angles. -/
theorem turn_apply (b : Fin 2) (p : Fin 5000) (t : Fin 24) :
    val_main_v108 x0 x1 (ix3 b p t) = (scene x0 x1 x2 x3 x4 b).turn t p := by
  pointwise [val_main_v108, val_main_v107, val_main_v106, val_main_v105, val_main_v104, val_main_v103, val_main_v102, val_main_v101, val_main_v100, val_main_v99, val_main_v98, val_main_v97, val_main_cst_18]
  rw [absf_eq]
  rfl

include x0 x1 x2 x3 x4 in
/-- The largest mean distance of a batch, at least the small constant. -/
theorem dist_peak (b : Fin 2) : val_main_v65 x0 x1 x3 (ix3 b 0 0) = max (lit 841731191#32)
    (Finset.univ.fold max (Ideal.ofBits FTy.f32 4286578688#32)
      (fun x : Fin 5000 × Fin 24 => (scene x0 x1 x2 x3 x4 b).dist x.2 x.1)) := by
  rw [val_main_v65_apply, maximumf_eq]
  pointwise [val_main_call1_v1, val_main_call1_v0, val_main_v64, val_main_v63, val_main_cst_8, val_main_cst_9]
  simp only [dist_apply x0 x1 x2 x3 x4]
  rw [constant_value]

include x0 x1 x2 x3 x4 in
/-- The score of the distance. -/
theorem dist_score (b : Fin 2) (p : Fin 5000) (t : Fin 24) :
    val_main_v155 x0 x1 x3 (ix3 b p t) = score (scene x0 x1 x2 x3 x4 b).dist t p := by
  rw [val_main_v155_apply, maximumf_eq]
  pointwise [val_main_call6_v1, val_main_call6_v0, val_main_cst_33, val_main_v71, val_main_v70, val_main_v69, val_main_v68, val_main_v67, val_main_v66, val_main_cst_10, val_main_cst_11]
  rw [dist_apply x0 x1 x2 x3 x4, dist_peak x0 x1 x2 x3 x4, constant_value]
  exact score_swap _ t p

include x0 x1 x2 x3 x4 in
/-- The largest start distance of a batch, at least the small constant. -/
theorem start_peak (b : Fin 2) : val_main_v90 x0 x1 x3 x4 (ix3 b 0 0) = max (lit 841731191#32)
    (Finset.univ.fold max (Ideal.ofBits FTy.f32 4286578688#32)
      (fun x : Fin 5000 × Fin 24 => (scene x0 x1 x2 x3 x4 b).start x.2 x.1)) := by
  rw [val_main_v90_apply, maximumf_eq]
  pointwise [val_main_call2_v1, val_main_call2_v0, val_main_v89, val_main_v88, val_main_cst_14, val_main_cst_15]
  simp only [start_apply x0 x1 x2 x3 x4]
  rw [constant_value]

include x0 x1 x2 x3 x4 in
/-- The score of the start. -/
theorem start_score (b : Fin 2) (p : Fin 5000) (t : Fin 24) :
    val_main_v156 x0 x1 x3 x4 (ix3 b p t) = score (scene x0 x1 x2 x3 x4 b).start t p := by
  rw [val_main_v156_apply, maximumf_eq]
  pointwise [val_main_call7_v1, val_main_call7_v0, val_main_cst_34, val_main_v96, val_main_v95, val_main_v94, val_main_v93, val_main_v92, val_main_v91, val_main_cst_16, val_main_cst_17]
  rw [start_apply x0 x1 x2 x3 x4, start_peak x0 x1 x2 x3 x4, constant_value]
  exact score_swap _ t p

include x0 x1 x2 x3 x4 in
/-- The largest angle distance of a batch, at least the small constant. -/
theorem turn_peak (b : Fin 2) : val_main_v111 x0 x1 (ix3 b 0 0) = max (lit 841731191#32)
    (Finset.univ.fold max (Ideal.ofBits FTy.f32 4286578688#32)
      (fun x : Fin 5000 × Fin 24 => (scene x0 x1 x2 x3 x4 b).turn x.2 x.1)) := by
  rw [val_main_v111_apply, maximumf_eq]
  pointwise [val_main_call3_v1, val_main_call3_v0, val_main_v110, val_main_v109, val_main_cst_19, val_main_cst_20]
  simp only [turn_apply x0 x1 x2 x3 x4]
  rw [constant_value]

include x0 x1 x2 x3 x4 in
/-- The score of the angle. -/
theorem turn_score (b : Fin 2) (p : Fin 5000) (t : Fin 24) :
    val_main_v158 x0 x1 (ix3 b p t) = score (scene x0 x1 x2 x3 x4 b).turn t p := by
  rw [val_main_v158_apply, maximumf_eq]
  pointwise [val_main_call8_v1, val_main_call8_v0, val_main_cst_35, val_main_v117, val_main_v116, val_main_v115, val_main_v114, val_main_v113, val_main_v112, val_main_cst_21, val_main_cst_22]
  rw [turn_apply x0 x1 x2 x3 x4, turn_peak x0 x1 x2 x3 x4, constant_value]
  exact score_swap _ t p

include x0 x1 x2 x3 x4 in
/-- The product of the three scores. -/
theorem reg_apply (b : Fin 2) (p : Fin 5000) (t : Fin 24) :
    val_main_v159 x0 x1 x3 x4 (ix3 b p t) = (scene x0 x1 x2 x3 x4 b).reg t p := by
  pointwise [val_main_v159, val_main_v157]
  rw [dist_score x0 x1 x2 x3 x4, start_score x0 x1 x2 x3 x4, turn_score x0 x1 x2 x3 x4]
  rfl

end Ref

end Cert.Assign

end
-- ==== Proof.RefCost.lean ====
module

public import proofs.«01_k».proof.Proof.RefDist
public import proofs.«01_k».proof.Proof.Bounds

/-!
# The costs of the plain program

The plain program looks a target's focal cost up by its label, in an array of one entry for each class. A label cut to
0 or 1 names one of the two classes; a label cut to -1 counts from the end and names the second.
-/

@[expose] public section

set_option maxRecDepth 100000

noncomputable section

namespace Cert.Assign

open Idealize.ShloMosaic

/-- A word that names a class. -/
abbrev IsClass (w : BitVec 32) : Prop := w = 0#32 ∨ w = 1#32 ∨ w = -1#32

/-- The class of a word that names one. -/
def classOf (w : BitVec 32) : Fin 2 := if w = 0#32 then 0 else 1

/-- The constant 2. -/
theorem lit_2 : lit 0x40000000#32 = ((2 : ℝ) : EReal) := by
  simp [lit, Ideal.ofBits, Ideal.ieee, -EReal.coe_mul]; norm_num

/-- A label between -2 and 2 is cut to a word that names a class. -/
theorem label_word (x : EReal) (h0 : lit 0xC0000000#32 < x) (h2 : x < lit 0x40000000#32) :
    IsClass (Ideal.fptosi 32 x) := by
  have hn : lit 0xC0000000#32 = ((-2 : ℝ) : EReal) := by
    simp [lit, Ideal.ofBits, Ideal.ieee, -EReal.coe_mul, -EReal.coe_neg]; norm_num
  rw [lit_2] at h2
  rw [hn] at h0
  induction x with
  | bot => exact absurd h0 (by simp)
  | top => exact absurd h2 (by simp)
  | coe r =>
    have h0' : -2 < r := by exact_mod_cast h0
    have h2' : r < 2 := by exact_mod_cast h2
    have e : Ideal.fptosi 32 (r : EReal) = BitVec.ofInt 32 (max (-2147483648) (min 2147483647 (if 0 ≤ r then ⌊r⌋ else ⌈r⌉))) := rfl
    rw [e]
    by_cases hr : 0 ≤ r
    · rw [if_pos hr]
      have hf0 : 0 ≤ ⌊r⌋ := Int.floor_nonneg.mpr hr
      have hf2 : ⌊r⌋ < 2 := Int.floor_lt.mpr (by exact_mod_cast h2')
      obtain h | h : ⌊r⌋ = 0 ∨ ⌊r⌋ = 1 := by omega
      · left; rw [h]; decide
      · right; left; rw [h]; decide
    · rw [if_neg hr]
      have hf0 : -2 < ⌈r⌉ := Int.lt_ceil.mpr (by exact_mod_cast h0')
      have hf2 : ⌈r⌉ ≤ 0 := Int.ceil_le.mpr (by exact_mod_cast (not_le.mp hr).le)
      obtain h | h : ⌈r⌉ = 0 ∨ ⌈r⌉ = -1 := by omega
      · left; rw [h]; decide
      · right; right; rw [h]; decide

/-- The square of a real. -/
theorem pow_two_real (q : ℝ) : Ideal.pow (q : EReal) (lit 0x40000000#32) = (q : EReal) * q := by
  rw [lit_2, Ideal.pow_coe_coe, ← EReal.coe_mul]
  congr 1
  show q ^ (2 : ℝ) = q * q
  rw [Real.rpow_two, sq]

/-- The focal cost with its squares taken as powers. -/
theorem focal_powers (x : EReal) :
    -Ideal.log (Ideal.logistic x + lit 0x2B8CBCCC#32) * lit 0x3E800000#32 * Ideal.pow (1 - Ideal.logistic x) (lit 0x40000000#32)
      - -Ideal.log (1 - Ideal.logistic x + lit 0x2B8CBCCC#32) * lit 0x3F400000#32 * Ideal.pow (Ideal.logistic x) (lit 0x40000000#32)
      = focal x := by
  unfold focal
  obtain ⟨q, -, -, hq⟩ := logistic_real x
  rw [hq, pow_two_real, show (1 : EReal) - (q : EReal) = ((1 - q : ℝ) : EReal) by
    rw [EReal.coe_sub, EReal.coe_one], pow_two_real]

namespace Ref

open Cert.ReferenceIdeal Cert.ReferenceIdeal.Gen Cert.ReferenceIdeal.Read

/-- The look-up along the last axis, at an index: the entry the label names, the label held to the two classes. -/
theorem lookup_apply {α : Type} (x : S2x5000x2.Idx → α) (idx : IVec S2x5000x24x1 32) (b : Fin 2) (p : Fin 5000) (t : Fin 24) :
    Host.gather gather_S2x5000x2_S2x5000x24x1_S2x5000x24_n_2_01_01_2_3_111 x idx (ix3 b p t)
      = x (ix3 b p (⟨min (idx (ix4 b p t (0 : Fin 1))).toInt.toNat (2 - 1), by omega⟩ : Fin 2)) := by
  generalize hd : gather_S2x5000x2_S2x5000x24x1_S2x5000x24_n_2_01_01_2_3_111 = d
  have hb : d.operandBatchingDims = [0, 1] := by rw [← hd]; rfl
  have hm : d.startIndexMap = [2] := by rw [← hd]; rfl
  have hc : d.collapsedSliceDims = [2] := by rw [← hd]; rfl
  unfold Host.gather
  congr 1
  funext a
  refine Fin.ext ?_
  show d.start (ix3 b p t) idx a + d.batchCoord (ix3 b p t) a + d.offCoord (ix3 b p t) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by rw [hb]; decide),
      GatherDims.offCoord_eq_zero _ _ _ (fun h => ((GatherDims.mem_sKept _ _).mp h).2 (by rw [hb]; decide))]
    simp only [Nat.zero_add, Nat.add_zero]
    subst hd
    unfold GatherDims.batchCoord
    rw [dif_pos (by decide)]
    rfl
  · rw [GatherDims.start_batching _ _ _ _ (by rw [hb]; decide),
      GatherDims.offCoord_eq_zero _ _ _ (fun h => ((GatherDims.mem_sKept _ _).mp h).2 (by rw [hb]; decide))]
    simp only [Nat.zero_add, Nat.add_zero]
    subst hd
    unfold GatherDims.batchCoord
    rw [dif_pos (by decide)]
    rfl
  · rw [GatherDims.batchCoord_eq_zero _ _ _ (by rw [hb]; decide),
      GatherDims.offCoord_eq_zero _ _ _ (fun h => ((GatherDims.mem_sKept _ _).mp h).1 (by rw [hc]; decide))]
    simp only [Nat.add_zero]
    subst hd
    unfold GatherDims.start
    rw [dif_pos (by decide)]
    have hsi : GatherDims.siIdx gather_S2x5000x2_S2x5000x24x1_S2x5000x24_n_2_01_01_2_3_111 (ix3 b p t)
        ⟨List.idxOf (2 : Fin 3) gather_S2x5000x2_S2x5000x24x1_S2x5000x24_n_2_01_01_2_3_111.startIndexMap,
          List.idxOf_lt_length_iff.2 (by decide)⟩ = ix4 b p t (0 : Fin 1) := by
      funext c; refine Fin.ext ?_
      match c with
      | ⟨0, _⟩ => rfl
      | ⟨1, _⟩ => rfl
      | ⟨2, _⟩ => rfl
      | ⟨3, _⟩ => rfl
    rw [hsi]
    rfl

variable (x0 : (⟨S2x5000x78, .f32⟩ : BufTy).Contents (Elt Ideal)) (x1 : (⟨S2x24x78, .f32⟩ : BufTy).Contents (Elt Ideal))
  (x2 : (⟨S2x24, .f32⟩ : BufTy).Contents (Elt Ideal)) (x3 x4 : (⟨S_, .i32⟩ : BufTy).Contents (Elt Ideal))

/-- A target's label, cut to a word. -/
theorem label_apply (b : Fin 2) (p : Fin 5000) (t : Fin 24) :
    val_main_v151 x1 (ix3 b p t) = Ideal.fptosi 32 (x1 (ix3 b t 1)) := by
  pointwise [val_main_v151, val_main_v150, val_main_v120, val_main_v119, val_main_v118]
  rfl

/-- A prediction's chance of a class. -/
theorem chance_apply (b : Fin 2) (p : Fin 5000) (c : Fin 2) :
    val_main_v127 x0 (ix3 b p c) = Ideal.logistic (x0 (ix3 b p ⟨c, by omega⟩)) := by
  pointwise [val_main_v127, val_main_v126, val_main_v125, val_main_v124, val_main_v123, val_main_v122, val_main_v121, val_main_cst_23, val_main_cst_24]
  rfl

/-- The positive part of the focal cost of a class. -/
theorem positive_apply (b : Fin 2) (p : Fin 5000) (c : Fin 2) (x : EReal) (hx : x = x0 (ix3 b p ⟨c, by omega⟩)) :
    val_main_v149 x0 (ix3 b p c) = -Ideal.log (Ideal.logistic x + lit 0x2B8CBCCC#32) * lit 0x3E800000#32 * Ideal.pow (1 - Ideal.logistic x) (lit 0x40000000#32) := by
  pointwise [val_main_v149, val_main_v148, val_main_v147, val_main_v146, val_main_v145, val_main_v144, val_main_v143, val_main_v142, val_main_v141, val_main_v140, val_main_v139, val_main_cst_29, val_main_cst_30, val_main_cst_31, val_main_cst_32]
  rw [chance_apply, ← hx]

/-- The negative part of the focal cost of a class. -/
theorem negative_apply (b : Fin 2) (p : Fin 5000) (c : Fin 2) (x : EReal) (hx : x = x0 (ix3 b p ⟨c, by omega⟩)) :
    val_main_v138 x0 (ix3 b p c) = -Ideal.log (1 - Ideal.logistic x + lit 0x2B8CBCCC#32) * lit 0x3F400000#32 * Ideal.pow (Ideal.logistic x) (lit 0x40000000#32) := by
  pointwise [val_main_v138, val_main_v137, val_main_v136, val_main_v135, val_main_v134, val_main_v133, val_main_v132, val_main_v131, val_main_v130, val_main_v129, val_main_v128, val_main_cst_25, val_main_cst_26, val_main_cst_27, val_main_cst_28]
  rw [chance_apply, ← hx]

/-- Where the look-up goes: a word below 0 counts from the end. -/
theorem index_apply (b : Fin 2) (p : Fin 5000) (t : Fin 24) (w : BitVec 32) (hw : val_main_v151 x1 (ix3 b p t) = w)
    (hc : IsClass w) : val_main_call4_v5 x1 (ix4 b p t 0) = BitVec.ofNat 32 (classOf w).val := by
  pointwise [val_main_call4_v5, val_main_call4_v4, val_main_call4_v3, val_main_call4_v2, val_main_call4_v1, val_main_call4_v0, val_main_call4_c, val_main_call4_c_0]
  rw [hw]
  rcases hc with rfl | rfl | rfl <;> rfl

/-- The look-up is within the array. -/
theorem found_apply (b : Fin 2) (p : Fin 5000) (t : Fin 24) (k : Fin 2)
    (hw : val_main_call4_v5 x1 (ix4 b p t 0) = BitVec.ofNat 32 k.val) : val_main_call4_v12 x1 (ix3 b p t) = 1#1 := by
  pointwise [val_main_call4_v12, val_main_call4_v11, val_main_call4_v10, val_main_call4_v9, val_main_call4_v8, val_main_call4_v7, val_main_call4_v6, val_main_call4_c_1, val_main_call4_c_2, val_main_call4_c_3]
  rw [Finset.univ_unique, Finset.fold_singleton]
  show IntOp.andi (IntOp.andi (IntOp.cmpi .sge (val_main_call4_v5 x1 (ix4 b p t 0)) 0#32)
    (IntOp.cmpi .sle (val_main_call4_v5 x1 (ix4 b p t 0)) 1#32)) 1#1 = 1#1
  rw [hw]
  fin_cases k <;> rfl

/-- The entry that the look-up reads. -/
theorem held (k : Fin 2) : (⟨min (BitVec.ofNat 32 k.val).toInt.toNat (2 - 1), by omega⟩ : Fin 2) = k := by
  fin_cases k <;> rfl

/-- The positive part of the focal cost, looked up. -/
theorem positive_found (b : Fin 2) (p : Fin 5000) (t : Fin 24) (w : BitVec 32) (hw : val_main_v151 x1 (ix3 b p t) = w)
    (hc : IsClass w) : val_main_v152 x0 x1 (ix3 b p t) = val_main_v149 x0 (ix3 b p (classOf w)) := by
  have hi := index_apply x1 b p t w hw hc
  rw [val_main_v152_apply, found_apply x1 b p t (classOf w) hi]
  show val_main_call4_v13 x0 x1 (ix3 b p t) = _
  unfold val_main_call4_v13
  rw [lookup_apply]
  simp only [hi, held]

/-- The negative part of the focal cost, looked up. -/
theorem negative_found (b : Fin 2) (p : Fin 5000) (t : Fin 24) (w : BitVec 32) (hw : val_main_v151 x1 (ix3 b p t) = w)
    (hc : IsClass w) : val_main_v153 x0 x1 (ix3 b p t) = val_main_v138 x0 (ix3 b p (classOf w)) := by
  have hi : val_main_call5_v5 x1 (ix4 b p t 0) = BitVec.ofNat 32 (classOf w).val := index_apply x1 b p t w hw hc
  have hf : val_main_call5_v12 x1 (ix3 b p t) = 1#1 := found_apply x1 b p t (classOf w) hi
  rw [val_main_v153_apply, hf]
  show val_main_call5_v13 x0 x1 (ix3 b p t) = _
  unfold val_main_call5_v13
  rw [lookup_apply]
  simp only [hi, held]

/-- The focal cost of the class a target's label names. -/
theorem cls_apply (b : Fin 2) (p : Fin 5000) (t : Fin 24)
    (h0 : lit 0xC0000000#32 < x1 (ix3 b t 1)) (h2 : x1 (ix3 b t 1) < lit 0x40000000#32) :
    val_main_v154 x0 x1 (ix3 b p t) = (scene x0 x1 x2 x3 x4 b).cls t p := by
  have hc := label_word _ h0 h2
  pointwise [val_main_v154]
  rw [positive_found x0 x1 b p t _ (label_apply x1 b p t) hc, negative_found x0 x1 b p t _ (label_apply x1 b p t) hc,
    positive_apply x0 b p _ _ rfl, negative_apply x0 b p _ _ rfl, focal_powers]
  unfold Scene.cls
  rw [show (scene x0 x1 x2 x3 x4 b).lab t = x1 (ix3 b t 1) from rfl]
  unfold classOf
  split <;> rfl

/-- What the masks and the labels of a target must satisfy. -/
def Allowed (b : Fin 2) (t : Fin 24) : Prop :=
  x2 (ix2 b t) = 0 ∨ 0 < x2 (ix2 b t) ∧ lit 0xC0000000#32 < x1 (ix3 b t 1) ∧ x1 (ix3 b t 1) < lit 0x40000000#32

/-- A mask that is not zero is positive. -/
theorem mask_bit (b : Fin 2) (t : Fin 24) (h : Allowed x1 x2 b t) :
    val_main_v168 x2 (ix2 b t) = BitVec.ofBool (decide (0 < (scene x0 x1 x2 x3 x4 b).msk t)) := by
  pointwise [val_main_v168, val_main_v167, val_main_cst_38]
  congr 1
  rw [show (scene x0 x1 x2 x3 x4 b).msk t = x2 (ix2 b t) from rfl, decide_eq_decide]
  rcases h with h | h
  · rw [h]; simp
  · exact ⟨fun _ => h.1, fun h => ne_of_gt h⟩

/-- The mask of a target, repeated for every prediction. -/
theorem mask_apply (b : Fin 2) (p : Fin 5000) (t : Fin 24) (h : Allowed x1 x2 b t) :
    val_main_v171 x2 (ix3 b p t) = BitVec.ofBool (decide (0 < (scene x0 x1 x2 x3 x4 b).msk t)) := by
  pointwise [val_main_v171, val_main_v170]
  exact mask_bit x0 x1 x2 x3 x4 b t h

/-- The cost matrix. -/
theorem cost_apply (b : Fin 2) (p : Fin 5000) (t : Fin 24) (h : Allowed x1 x2 b t) :
    val_main_v172 x0 x1 x2 x3 x4 (ix3 b p t) = (scene x0 x1 x2 x3 x4 b).cost t p := by
  rw [val_main_v172_apply, mask_apply x0 x1 x2 x3 x4 b p t h, select_decide]
  unfold Scene.cost
  by_cases hm : 0 < (scene x0 x1 x2 x3 x4 b).msk t
  · rw [if_pos hm, if_pos hm]
    have hl : lit 0xC0000000#32 < x1 (ix3 b t 1) ∧ x1 (ix3 b t 1) < lit 0x40000000#32 := by
      rcases h with h | h
      · exact absurd h (ne_of_gt hm)
      · exact h.2
    pointwise [val_main_v166, val_main_v165, val_main_v164, val_main_v163, val_main_v162, val_main_v161, val_main_v160, val_main_cst_36, val_main_cst_37]
    rw [reg_apply x0 x1 x2 x3 x4, cls_apply x0 x1 x2 x3 x4 b p t hl.1 hl.2]
  · rw [if_neg hm, if_neg hm]
    pointwise [val_main_call9_v1, val_main_call9_v0, val_main_cst_39]
    exact constant_value _

end Ref

end Cert.Assign

end
-- ==== Proof.RefOverlap.lean ====
module

public import proofs.«01_k».proof.Proof.RefCost
public import proofs.«01_k».proof.Proof.Overlap

/-!
# The overlaps of the plain program

The plain program adds up, over the points in the image, the common part and the union of two lanes thirty wide.
-/

@[expose] public section

set_option maxRecDepth 100000

noncomputable section

namespace Cert.Assign

open Idealize.ShloMosaic

/-- The constant 0. -/
theorem lit_zero : lit 0#32 = 0 := by simp [lit, Ideal.ofBits, Ideal.ieee]

/-- The smaller of two numbers. -/
theorem minimumf_eq (x y : Ideal .f32) : FloatOps.minimumf x y = min x y := rfl

/-- The difference of two numbers. -/
theorem subf_eq (x y : Ideal .f32) : FloatOps.subf x y = (x : EReal) - y := rfl

/-- A point is outside the image when it is not in it. -/
theorem outside_bit (y w : EReal) (s : Prop) [Decidable s] (hs : s ↔ 0 ≤ y ∧ y < w) :
    IntOp.ori (BitVec.ofBool (decide (y < 0))) (BitVec.ofBool (decide (w ≤ y))) = BitVec.ofBool (decide (¬ s)) := by
  by_cases h : y < 0 <;> by_cases h' : w ≤ y <;> simp [h, h', hs, IntOp.ori] <;>
    first
    | (intro h0; exact absurd h0 (not_le.mpr h))
    | exact ⟨le_of_not_gt h, lt_of_not_ge h'⟩
    | skip

namespace Ref

open Cert.ReferenceIdeal Cert.ReferenceIdeal.Read

variable (x0 : (⟨S2x5000x78, .f32⟩ : BufTy).Contents (Elt Ideal)) (x1 : (⟨S2x24x78, .f32⟩ : BufTy).Contents (Elt Ideal))
  (x2 : (⟨S2x24, .f32⟩ : BufTy).Contents (Elt Ideal)) (x3 x4 : (⟨S_, .i32⟩ : BufTy).Contents (Elt Ideal))

include x0 x1 x2 x3 x4 in
/-- Whether a target's point is outside the image. -/
theorem outside_apply (b : Fin 2) (t : Fin 24) (k : Fin 72) :
    val_main_v209 x1 x3 (ix4 b 0 t k) = BitVec.ofBool (decide (¬ (scene x0 x1 x2 x3 x4 b).inside t k)) := by
  pointwise [val_main_v209, val_main_v186, val_main_v185, val_main_v184, val_main_v183, val_main_v182, val_main_v181, val_main_cst_44]
  rw [targets_apply x0 x1 x2 x3 x4]
  exact outside_bit _ _ _ Iff.rfl

include x0 x1 x2 x3 x4 in
/-- The common part of two lanes at a point. -/
theorem meet_apply (b : Fin 2) (p : Fin 5000) (t : Fin 24) (k : Fin 72) :
    val_main_v197 x0 x1 x3 (ix4 b p t k)
      = min ((scene x0 x1 x2 x3 x4 b).X p k + lit 0x41700000#32) ((scene x0 x1 x2 x3 x4 b).Y t k + lit 0x41700000#32)
        - max ((scene x0 x1 x2 x3 x4 b).X p k - lit 0x41700000#32) ((scene x0 x1 x2 x3 x4 b).Y t k - lit 0x41700000#32) := by
  rw [val_main_v197_apply, val_main_v191_apply, val_main_v196_apply, minimumf_eq, maximumf_eq, subf_eq]
  pointwise [val_main_v189, val_main_v190, val_main_v194, val_main_v195, val_main_v187, val_main_v188, val_main_v192, val_main_v193, val_main_v174, val_main_v176, val_main_v178, val_main_v180, val_main_v173, val_main_v175, val_main_v177, val_main_v179, val_main_cst_40, val_main_cst_41, val_main_cst_42, val_main_cst_43]
  rw [points_apply x0 x1 x2 x3 x4, targets_apply x0 x1 x2 x3 x4]

include x0 x1 x2 x3 x4 in
/-- The union of two lanes at a point. -/
theorem join_apply (b : Fin 2) (p : Fin 5000) (t : Fin 24) (k : Fin 72) :
    val_main_v208 x0 x1 x3 (ix4 b p t k)
      = max ((scene x0 x1 x2 x3 x4 b).X p k + lit 0x41700000#32) ((scene x0 x1 x2 x3 x4 b).Y t k + lit 0x41700000#32)
        - min ((scene x0 x1 x2 x3 x4 b).X p k - lit 0x41700000#32) ((scene x0 x1 x2 x3 x4 b).Y t k - lit 0x41700000#32) := by
  rw [val_main_v208_apply, val_main_v202_apply, val_main_v207_apply, minimumf_eq, maximumf_eq, subf_eq]
  pointwise [val_main_v200, val_main_v201, val_main_v205, val_main_v206, val_main_v198, val_main_v199, val_main_v203, val_main_v204, val_main_v174, val_main_v176, val_main_v178, val_main_v180, val_main_v173, val_main_v175, val_main_v177, val_main_v179, val_main_cst_40, val_main_cst_41, val_main_cst_42, val_main_cst_43]
  rw [points_apply x0 x1 x2 x3 x4, targets_apply x0 x1 x2 x3 x4]

/-- The common part that stands for a point outside the image. -/
theorem zero_10 (b : Fin 2) (p : Fin 5000) (t : Fin 24) (k : Fin 72) :
    val_main_call10_v2 (F := Ideal) (ix4 b p t k) = (0 : EReal) := by
  pointwise [val_main_call10_v2, val_main_call10_v0, val_main_cst_45]
  rw [constant_value, lit_zero]

/-- The union that stands for a point outside the image. -/
theorem zero_11 (b : Fin 2) (p : Fin 5000) (t : Fin 24) (k : Fin 72) :
    val_main_call11_v2 (F := Ideal) (ix4 b p t k) = (0 : EReal) := zero_10 b p t k

/-- The summed common parts. -/
theorem meets_apply (b : Fin 2) (p : Fin 5000) (t : Fin 24) :
    val_main_v212 x0 x1 x3 (ix3 b p t)
      = lit 0x41F00000#32 * (scene x0 x1 x2 x3 x4 b).count t - (scene x0 x1 x2 x3 x4 b).gap t p := by
  obtain ⟨-, -, -, -, h, -⟩ := (scene x0 x1 x2 x3 x4 b).overlap_parts t p
  rw [← h]
  pointwise [val_main_v212, val_main_cst_47, val_main_v210, val_main_call10_v1]
  simp only [outside_apply x0 x1 x2 x3 x4, meet_apply x0 x1 x2 x3 x4, zero_10, select_decide, ite_not]

/-- The summed unions. -/
theorem joins_apply (b : Fin 2) (p : Fin 5000) (t : Fin 24) :
    val_main_v213 x0 x1 x3 (ix3 b p t)
      = lit 0x41F00000#32 * (scene x0 x1 x2 x3 x4 b).count t + (scene x0 x1 x2 x3 x4 b).gap t p := by
  obtain ⟨-, -, -, -, -, h⟩ := (scene x0 x1 x2 x3 x4 b).overlap_parts t p
  rw [← h]
  pointwise [val_main_v213, val_main_cst_48, val_main_v211, val_main_call11_v1]
  simp only [outside_apply x0 x1 x2 x3 x4, join_apply x0 x1 x2 x3 x4, zero_11, select_decide, ite_not]

/-- The overlaps before the masks; their special numbers are never met. -/
theorem ratio_apply (b : Fin 2) (p : Fin 5000) (t : Fin 24) :
    val_main_v217 x0 x1 x3 (ix3 b p t)
      = Ideal.div (lit 0x41F00000#32 * (scene x0 x1 x2 x3 x4 b).count t - (scene x0 x1 x2 x3 x4 b).gap t p)
        (lit 0x41F00000#32 * (scene x0 x1 x2 x3 x4 b).count t + (scene x0 x1 x2 x3 x4 b).gap t p + lit 0x3089705F#32) := by
  obtain ⟨q, -, -, hq⟩ := (scene x0 x1 x2 x3 x4 b).overlap_real t p
  have h216 : val_main_v216 x0 x1 x3 (ix3 b p t) = (q : EReal) := by
    rw [← hq]
    pointwise [val_main_v216, val_main_v215, val_main_v214, val_main_cst_49]
    rw [meets_apply x0 x1 x2 x3 x4, joins_apply x0 x1 x2 x3 x4]
  have h2 : val_main_call12_v2 x0 x1 x3 (ix3 b p t) = (q : EReal) := by
    pointwise [val_main_call12_v2, val_main_call12_v0]
    rw [h216]
    simp
  have h5 : val_main_call12_v5 x0 x1 x3 (ix3 b p t) = (q : EReal) := by
    pointwise [val_main_call12_v5, val_main_call12_v4, val_main_call12_v3, val_main_call12_cst]
    rw [h2, if_neg]
    rw [show Ideal.ofBits FTy.f32 2139095040#32 = ⊤ from lit_inf]
    exact EReal.coe_ne_top q
  rw [hq]
  pointwise [val_main_v217, val_main_call12_v7, val_main_call12_v6, val_main_call12_cst_1]
  rw [h5, if_neg]
  rw [show Ideal.ofBits FTy.f32 4286578688#32 = ⊥ from lit_minus_inf]
  exact EReal.coe_ne_bot q

/-- The overlaps. -/
theorem overlap_apply (b : Fin 2) (p : Fin 5000) (t : Fin 24) (h : Allowed x1 x2 b t) :
    val_main_v218 x0 x1 x2 x3 (ix3 b p t) = (scene x0 x1 x2 x3 x4 b).overlap t p := by
  rw [val_main_v218_apply, mask_apply x0 x1 x2 x3 x4 b p t h, select_decide, ratio_apply x0 x1 x2 x3 x4]
  unfold Scene.overlap
  congr 1
  pointwise [val_main_call13_v1, val_main_call13_v0, val_main_cst_51]
  rw [constant_value, lit_zero]

end Ref

end Cert.Assign

end
-- ==== Proof.RefPick.lean ====
module

public import proofs.«01_k».proof.Proof.RefOverlap
public import proofs.«01_k».proof.Proof.Matching

/-!
# The largest entries of a row, as the plain program reads them

The plain program sorts the last axis of an array in descending order, stably, and keeps the first few entries and
their places.
-/

@[expose] public section

set_option maxRecDepth 100000

noncomputable section

namespace Cert.Assign

open Idealize.ShloMosaic

variable {a b n k : ℕ}

/-- An index moved along the last axis. -/
theorem ix3_along (i : Fin a) (j : Fin b) (l l' : Fin n) :
    Shape.Idx.along (s := ⟨3, ![a, b, n]⟩) (ix3 i j l) 2 l' = ix3 i j l' := by
  funext d
  fin_cases d <;> rfl

/-- The index of a kept entry, in the array that was sorted. -/
theorem kept_index (h : Shape.Slices (⟨3, ![a, b, n]⟩ : Shape) (fun _ => 0) ⟨3, ![a, b, k]⟩) (i : Fin a) (j : Fin b)
    (r : Fin k) (hr : r.val < n) {α : Type} (x : (⟨3, ![a, b, n]⟩ : Shape).Idx → α) :
    extractStridedSlice ⟨3, ![a, b, k]⟩ (fun _ => 0) x h (ix3 i j r) = x (ix3 i j ⟨r.val, hr⟩) := by
  refine extractStridedSlice_apply _ _ _ _ (ix3 i j ⟨r.val, hr⟩) ?_
  intro d
  fin_cases d <;> simp

/-- The order of the places in a row. -/
theorem sorted_row (x : (⟨3, ![a, b, n]⟩ : Shape).Idx → Ideal .f32) (i : Fin a) (j : Fin b) (l r : Fin n) :
    sortedFrom (fun k k' : Fin n => FloatOps.cmpfTotal .gt
      (x (Shape.Idx.along (s := ⟨3, ![a, b, n]⟩) (ix3 i j l) 2 k))
      (x (Shape.Idx.along (s := ⟨3, ![a, b, n]⟩) (ix3 i j l) 2 k')) == 1#1) r
      = descending (fun l => x (ix3 i j l)) r := by
  unfold descending
  congr 1
  funext k k'
  rw [ix3_along, ix3_along]
  change (BitVec.ofBool (decide (x (ix3 i j k') < x (ix3 i j k))) == 1#1) = decide (x (ix3 i j k') < x (ix3 i j k))
  by_cases hlt : x (ix3 i j k') < x (ix3 i j k) <;> simp [hlt]

/-- The kept entries. -/
theorem topK_value (h : Shape.Slices (⟨3, ![a, b, n]⟩ : Shape) (fun _ => 0) ⟨3, ![a, b, k]⟩) (i : Fin a) (j : Fin b)
    (r : Fin k) (hr : r.val < n) (x : (⟨3, ![a, b, n]⟩ : Shape).Idx → Ideal .f32) :
    (Host.topK ⟨3, ![a, b, k]⟩ 2 (FloatOps.cmpfTotal .gt) x h).1 (ix3 i j r)
      = x (ix3 i j (descending (fun l => x (ix3 i j l)) ⟨r.val, hr⟩)) := by
  unfold Host.topK
  dsimp only
  rw [kept_index h i j r hr]
  unfold Host.sort2
  rw [dif_pos (show 2 < 3 by decide)]
  refine Eq.trans ?_ (congrArg (fun q => x (ix3 i j q)) (sorted_row x i j ⟨r.val, hr⟩ ⟨r.val, hr⟩))
  exact congrArg x (ix3_along i j ⟨r.val, hr⟩ _)

/-- The places of the kept entries. -/
theorem topK_place (h : Shape.Slices (⟨3, ![a, b, n]⟩ : Shape) (fun _ => 0) ⟨3, ![a, b, k]⟩) (i : Fin a) (j : Fin b)
    (r : Fin k) (hr : r.val < n) (x : (⟨3, ![a, b, n]⟩ : Shape).Idx → Ideal .f32) :
    (Host.topK ⟨3, ![a, b, k]⟩ 2 (FloatOps.cmpfTotal .gt) x h).2 (ix3 i j r)
      = BitVec.ofNat 32 (descending (fun l => x (ix3 i j l)) ⟨r.val, hr⟩).val := by
  unfold Host.topK
  dsimp only
  rw [kept_index h i j r hr]
  unfold Host.sort2
  rw [dif_pos (show 2 < 3 by decide)]
  refine Eq.trans ?_ (congrArg (fun q : Fin n => BitVec.ofNat 32 q.val) (sorted_row x i j ⟨r.val, hr⟩ ⟨r.val, hr⟩))
  rfl

end Cert.Assign

end
-- ==== Proof.RefMatch.lean ====
module

public import proofs.«01_k».proof.Proof.RefPick

/-!
# The matching of the plain program

Every target takes as many of its cheapest predictions as its four largest overlaps sum to, and a prediction that
several targets take goes to the one it costs least.
-/

@[expose] public section

set_option maxRecDepth 100000

noncomputable section

namespace Cert.Assign

open Idealize.ShloMosaic

/-- The larger of two words does not depend on their order. -/
theorem maxsi_comm (x y : BitVec 32) : IntOp.maxsi x y = IntOp.maxsi y x := by
  unfold IntOp.maxsi
  by_cases h : y.slt x <;> by_cases h' : x.slt y
  · simp only [BitVec.slt, decide_eq_true_eq] at h h'; omega
  · simp [h, h']
  · simp [h, h']
  · simp only [BitVec.slt, decide_eq_true_eq] at h h'
    have : x = y := BitVec.eq_of_toInt_eq (by omega)
    simp [this]

/-- Two places are the same when their words are. -/
theorem same_place {n : ℕ} (hn : n < 2147483648) (i p : Fin n) :
    FloatOps.uitofp (F := Ideal) FTy.f32 (IntOp.cmpi .eq (BitVec.ofNat 32 i.val) (BitVec.ofNat 32 p.val))
      = if p = i then 1 else 0 := by
  have he : (BitVec.ofNat 32 i.val == BitVec.ofNat 32 p.val) = decide (p = i) := by
    have hi := i.isLt
    have hp := p.isLt
    rw [Bool.eq_iff_iff, beq_iff_eq, decide_eq_true_eq]
    constructor
    · intro h
      have h' := congrArg BitVec.toNat h
      rw [BitVec.toNat_ofNat, BitVec.toNat_ofNat, Nat.mod_eq_of_lt (by omega), Nat.mod_eq_of_lt (by omega)] at h'
      exact Fin.ext h'.symm
    · rintro rfl
      rfl
  rw [show IntOp.cmpi .eq (BitVec.ofNat 32 i.val) (BitVec.ofNat 32 p.val) = BitVec.ofBool (decide (p = i)) from
    congrArg BitVec.ofBool he, bit_value]

/-- A round is within the quota when it comes below it. -/
theorem below_quota (r : ℕ) (hr : r < 2147483648) (q : BitVec 32) :
    FloatOps.uitofp (F := Ideal) FTy.f32 (IntOp.cmpi .slt (BitVec.ofNat 32 r) q)
      = if (r : ℤ) < q.toInt then 1 else 0 := by
  rw [show IntOp.cmpi .slt (BitVec.ofNat 32 r) q = BitVec.ofBool (decide ((r : ℤ) < q.toInt)) from
    congrArg (fun k : ℤ => BitVec.ofBool (decide (k < q.toInt))) (word_toInt r hr), bit_value]

namespace Ref

open Cert.ReferenceIdeal Cert.ReferenceIdeal.Read

variable (x0 : (⟨S2x5000x78, .f32⟩ : BufTy).Contents (Elt Ideal)) (x1 : (⟨S2x24x78, .f32⟩ : BufTy).Contents (Elt Ideal))
  (x2 : (⟨S2x24, .f32⟩ : BufTy).Contents (Elt Ideal)) (x3 x4 : (⟨S_, .i32⟩ : BufTy).Contents (Elt Ideal))

include x0 x1 x2 x3 x4 in
/-- The four largest overlaps of a target. -/
theorem largest_apply (b : Fin 2) (t : Fin 24) (r : Fin 4) (h : Allowed x1 x2 b t) :
    val_main_values x0 x1 x2 x3 (ix3 b t r)
      = (scene x0 x1 x2 x3 x4 b).overlap t (descending ((scene x0 x1 x2 x3 x4 b).overlap t) (Scene.rank r)) := by
  have hv : ∀ l, val_main_v219 x0 x1 x2 x3 (ix3 b t l) = (scene x0 x1 x2 x3 x4 b).overlap t l := fun l => by
    pointwise [val_main_v219]
    exact overlap_apply x0 x1 x2 x3 x4 b l t h
  unfold val_main_values
  refine (topK_value _ b t r (Scene.rank r).isLt _).trans ?_
  simp only [hv]

include x0 x1 x2 x3 x4 in
/-- How many predictions a target takes. -/
theorem quota_apply (b : Fin 2) (t : Fin 24) (h : Allowed x1 x2 b t) :
    val_main_v226 x0 x1 x2 x3 (ix2 b t) = (scene x0 x1 x2 x3 x4 b).quota t := by
  rw [val_main_v226_apply]
  have hm : val_main_v225 x2 (ix2 b t) = BitVec.ofBool (decide (0 < (scene x0 x1 x2 x3 x4 b).msk t)) :=
    mask_bit x0 x1 x2 x3 x4 b t h
  rw [hm, select_decide]
  unfold Scene.quota
  have hs : val_main_v222 x0 x1 x2 x3 (ix2 b t) = IntOp.maxsi 1#32 (Ideal.fptosi 32 (∑ r : Fin 4,
      (scene x0 x1 x2 x3 x4 b).overlap t (descending ((scene x0 x1 x2 x3 x4 b).overlap t) (Scene.rank r)))) := by
    rw [val_main_v222_apply]
    pointwise [val_main_call14_v1, val_main_call14_v0, val_main_c_53, val_main_v221, val_main_v220, val_main_cst_52]
    simp only [largest_apply x0 x1 x2 x3 x4 b t _ h]
    rfl
  rw [hs, maxsi_comm]
  rfl

/-- The cheapest predictions of a target. -/
theorem cheapest_apply (b : Fin 2) (t : Fin 24) (r : Fin 4) (h : Allowed x1 x2 b t) :
    val_main_indices_57 x0 x1 x2 x3 x4 (ix3 b t r)
      = BitVec.ofNat 32 ((scene x0 x1 x2 x3 x4 b).cheapest t r).val := by
  have hv : ∀ l, val_main_v228 x0 x1 x2 x3 x4 (ix3 b t l) = -(scene x0 x1 x2 x3 x4 b).cost t l := fun l => by
    pointwise [val_main_v228, val_main_v227]
    rw [cost_apply x0 x1 x2 x3 x4 b l t h]
  unfold val_main_indices_57
  refine (topK_place _ b t r (Scene.rank r).isLt _).trans ?_
  simp only [hv]
  rfl

/-- How often each target takes each prediction. -/
theorem hits_apply (b : Fin 2) (p : Fin 5000) (t : Fin 24) (h : Allowed x1 x2 b t) :
    val_main_v241 x0 x1 x2 x3 x4 (ix3 b p t) = ((((scene x0 x1 x2 x3 x4 b).hits t p : ℕ) : ℝ) : EReal) := by
  have h1 : ∀ r : Fin 4, val_main_v239 x0 x1 x2 x3 x4 (ix4 b t r p)
      = (((if p = (scene x0 x1 x2 x3 x4 b).cheapest t r ∧ (r.val : ℤ) < ((scene x0 x1 x2 x3 x4 b).quota t).toInt then 1
        else 0 : ℕ) : ℝ) : EReal) := fun r => by
    pointwise [val_main_v239, val_main_v238, val_main_v237, val_main_v236, val_main_v235, val_main_v234, val_main_v233,
      val_main_v232, val_main_v231, val_main_v230, val_main_v229, val_main_call16_v4, val_main_call16_v3,
      val_main_call16_v2, val_main_call16_v1, val_main_call16_v0]
    rw [cheapest_apply x0 x1 x2 x3 x4 b t r h, quota_apply x0 x1 x2 x3 x4 b t h]
    rw [same_place (by norm_num), below_quota _ (by omega), hit_number]
  pointwise [val_main_v241, val_main_v240, val_main_cst_58]
  simp only [h1]
  rw [sum_number]
  rfl

/-- The costs of the targets that take a prediction, negated; infinite for the others. -/
theorem crowd_apply (b : Fin 2) (p : Fin 5000) (t : Fin 24) (h : ∀ t, Allowed x1 x2 b t) :
    val_main_v248 x0 x1 x2 x3 x4 (ix3 b p t)
      = -(if ((((scene x0 x1 x2 x3 x4 b).hits t p : ℕ) : ℝ) : EReal) = 0 then ⊤ else (scene x0 x1 x2 x3 x4 b).cost t p) := by
  pointwise [val_main_v248, val_main_v247, val_main_v246, val_main_v245, val_main_cst_61, val_main_call17_v1,
    val_main_call17_v0, val_main_cst_62]
  rw [hits_apply x0 x1 x2 x3 x4 b p t (h t), cost_apply x0 x1 x2 x3 x4 b p t (h t)]
  rw [constant_value, lit_inf]

/-- The target that a prediction costs least, of those that take it. -/
theorem least_apply (b : Fin 2) (p : Fin 5000) (h : ∀ t, Allowed x1 x2 b t) :
    val_main_v249 x0 x1 x2 x3 x4 (ix2 b p) = BitVec.ofNat 32 (descending (fun t =>
      -(if ((((scene x0 x1 x2 x3 x4 b).hits t p : ℕ) : ℝ) : EReal) = 0 then ⊤ else (scene x0 x1 x2 x3 x4 b).cost t p))
      0).val := by
  pointwise [val_main_v249]
  unfold val_main_indices_64
  refine (topK_place _ b p (0 : Fin 1) (show 0 < 24 by decide) _).trans ?_
  simp only [crowd_apply x0 x1 x2 x3 x4 b p _ h]
  rfl

/-- The settled row of a prediction: a one-hot row if several targets take it, else who takes it. -/
theorem settled_apply (b : Fin 2) (p : Fin 5000) (t : Fin 24) (h : ∀ t, Allowed x1 x2 b t) :
    val_main_v252 x0 x1 x2 x3 x4 (ix3 b p t)
      = if 1 < ∑ t, ((((scene x0 x1 x2 x3 x4 b).hits t p : ℕ) : ℝ) : EReal) then
          (if t = descending (fun t => -(if ((((scene x0 x1 x2 x3 x4 b).hits t p : ℕ) : ℝ) : EReal) = 0 then ⊤
            else (scene x0 x1 x2 x3 x4 b).cost t p)) 0 then 1 else 0)
        else ((((scene x0 x1 x2 x3 x4 b).hits t p : ℕ) : ℝ) : EReal) := by
  pointwise [val_main_v252, val_main_call19_v0, val_main_v251, val_main_v244, val_main_v243, val_main_v242,
    val_main_cst_59, val_main_cst_60, val_main_v250, val_main_call18_v4, val_main_call18_v3, val_main_call18_v2,
    val_main_call18_v1, val_main_call18_v0]
  rw [least_apply x0 x1 x2 x3 x4 b p h, same_place (by norm_num)]
  simp only [hits_apply x0 x1 x2 x3 x4 b p _ (h _)]

/-- The target that a prediction is given. -/
theorem answer_apply (b : Fin 2) (p : Fin 5000) (h : ∀ t, Allowed x1 x2 b t) :
    val_main_v257 x0 x1 x2 x3 x4 (ix2 b p) = (scene x0 x1 x2 x3 x4 b).answer p := by
  have hp : val_main_v256 x0 x1 x2 x3 x4 (ix2 b p)
      = BitVec.ofNat 32 (descending (fun t => val_main_v252 x0 x1 x2 x3 x4 (ix3 b p t)) 0).val := by
    pointwise [val_main_v256]
    unfold val_main_indices_68
    exact topK_place _ b p (0 : Fin 1) (show 0 < 24 by decide) _
  refine Eq.trans ?_ (given_plain (fun t => (scene x0 x1 x2 x3 x4 b).hits t p)
    (fun t => (scene x0 x1 x2 x3 x4 b).cost t p) (fun t => val_main_v252 x0 x1 x2 x3 x4 (ix3 b p t))
    (funext fun t => settled_apply x0 x1 x2 x3 x4 b p t h))
  rw [val_main_v257_apply, hp]
  pointwise [val_main_v255, val_main_v254, val_main_v253, val_main_cst_65, val_main_cst_66, val_main_call20_v1,
    val_main_call20_v0, val_main_c_69]
  rfl

end Ref

end Cert.Assign

end
-- ==== Proof.Equation.lean ====
/-
  The equation of the two programs: on masks and labels that are allowed, both give every prediction the same target.
-/
module

public import proofs.«01_k».proof.Defs
public import proofs.«01_k».proof.Proof.Array
public import proofs.«01_k».proof.Proof.RefMatch
public import proofs.«01_k».proof.Proof.Gen.ReferenceIdeal.Run
public import Idealize.ShloMosaic.Lib.Claim

@[expose] public section

set_option maxRecDepth 100000

noncomputable section

namespace Cert.Assign

open Idealize.ShloMosaic Idealize.SL.Sem Cert.KernelIdeal Cert.KernelIdeal.Gen

/-- The shape relations that the precondition takes. -/
instance pre_facts : Cert.Pre_labels_and_masks.Facts where
  slices_S2x24x78_S2x24x1_0_0_1 := by decide
  shapeCasts_S2x24x1_S2x24 := by decide
  bcast_S_S2x24 := by decide

/-- The precondition allows every mask and label. -/
theorem allowed_of_pre [Cert.Pre_labels_and_masks.Facts]
    (x0 : (⟨3, ![2, 5000, 78]⟩ : Shape).Idx → Ideal .f32) (x1 : (⟨3, ![2, 24, 78]⟩ : Shape).Idx → Ideal .f32)
    (x2 : (⟨2, ![2, 24]⟩ : Shape).Idx → Ideal .f32) (x3 x4 : (⟨0, ![]⟩ : Shape).Idx → BitVec 32)
    (h : Cert.Pre_labels_and_masks.fn (F := Ideal) x0 x1 x2 x3 x4 = fun _ => 1#1) (b : Fin 2) (t : Fin 24) :
    Ref.Allowed x1 x2 b t := by
  have h1 := congrFun h (ix2 b t)
  unfold Cert.Pre_labels_and_masks.fn at h1
  dsimp only at h1
  pointwise at h1
  have h2 : (x2 (ix2 b t) = 0) ∨ (0 < x2 (ix2 b t) ∧ Ideal.ofBits FTy.f32 3221225472#32 < x1 (ix3 b t 1))
      ∧ x1 (ix3 b t 1) < Ideal.ofBits FTy.f32 1073741824#32 := by
    rw [andi_decide, andi_decide] at h1
    by_contra hne
    rw [not_or] at hne
    rw [decide_eq_false hne.1, decide_eq_false hne.2] at h1
    exact absurd h1 (by decide)
  exact h2.imp id fun h => ⟨h.1.1, h.1.2, h.2⟩

/-- What the kernel's program leaves in a host array. -/
def kept (m : (ℓ : Loc nD τ sig) → Buf (Elt Ideal) ℓ) (c : Dev nD) (r : Ref sig .tc) :
    Buf (Elt Ideal) ((c.tc : Thread nD τ).loc r) :=
  Pipeline.afterTail₀ cfgs (dats m) 0 (V0 m) [hostOps1] c r

/-- The kernel's second result. -/
theorem kept_v12 (m : (ℓ : Loc nD τ sig) → Buf (Elt Ideal) ℓ) (c : Dev nD) :
    (kept m c main_v12 : IVec S2x5000 32) = shapeCast S2x5000 (answers m c) shapeCasts_S2x1x5000_S2x5000 := tail_v12 m c

/-- The kernel's first result. -/
theorem kept_v14 (m : (ℓ : Loc nD τ sig) → Buf (Elt Ideal) ℓ) (c : Dev nD) :
    (kept m c main_v14 : IVec S2x5000 1)
      = cmpi .sge (shapeCast S2x5000 (answers m c) shapeCasts_S2x1x5000_S2x5000)
        (broadcastInDim S2x5000 ![] bcast_S_S2x5000 (constantI S_ 32 0#32)) := tail_v14 m c

/-- The reference's second result is the kernel's: both hold the answers. -/
theorem given_eq (m : (ℓ : Loc nD τ sig) → Buf (Elt Ideal) ℓ)
    (c : Dev nD)
    (h : ∀ b t, Ref.Allowed (m ((c.tc : Thread nD τ).loc main_arg1))
      (m ((c.tc : Thread nD τ).loc main_arg2)) b t) :
    Cert.ReferenceIdeal.Read.val_main_v257 (F := Ideal)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
      = kept m c main_v12 := by
  refine Eq.trans ?_ (kept_v12 m c).symm
  funext i
  obtain ⟨b, p, rfl⟩ : ∃ (b : Fin 2) (p : Fin 5000), i = ix2 b p := ⟨i 0, i 1, by
    funext a; fin_cases a <;> rfl⟩
  rw [cast_answers]
  exact Ref.answer_apply _ _ _ _ _ b p fun t => h b t

/-- The reference's first result is the kernel's: both hold the signs of the answers. -/
theorem assigned_eq (m : (ℓ : Loc nD τ sig) → Buf (Elt Ideal) ℓ)
    (c : Dev nD)
    (h : ∀ b t, Ref.Allowed (m ((c.tc : Thread nD τ).loc main_arg1))
      (m ((c.tc : Thread nD τ).loc main_arg2)) b t) :
    Cert.ReferenceIdeal.Read.val_main_v259 (F := Ideal)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
      = kept m c main_v14 := by
  unfold Cert.ReferenceIdeal.Read.val_main_v259
  refine Eq.trans ?_ (kept_v14 m c).symm
  rw [given_eq m c h]
  exact congrArg (fun x => cmpi .sge x _) (kept_v12 m c)

/-- The kernel's run. -/
theorem kernel_run (m : (ℓ : Loc nD τ sig) → Buf (Elt Ideal) ℓ) (g : Dev nD → PrngReg) :
    θ_run (Cert.KernelIdeal.defs (F := Ideal)) (onTc (τ := τ) (Cert.KernelIdeal.main (F := Ideal)))
      ⟨m, fun _ => 0, g⟩ (fun r => ∀ c : Dev nD,
        r.2.mem ((c.tc : Thread nD τ).loc main_v14) = kept m c main_v14
        ∧ r.2.mem ((c.tc : Thread nD τ).loc main_v12) = kept m c main_v12
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) := by
  refine (θ_run Cert.KernelIdeal.defs _ _).mono (fun r h c => ⟨?_, ?_, h.2 c⟩)
    (θ_run_and (run_main m g) (unchanged m g))
  · exact Pipeline.FramePost.rest_eq h.1 c main_v14 (by decide)
  · exact Pipeline.FramePost.rest_eq h.1 c main_v12 (by decide)

end Cert.Assign

end
-- ==== Proof.RefRun.lean ====
module

public import proofs.«01_k».proof.Proof.Gen.ReferenceIdeal.Run
public import proofs.«01_k».proof.Proof.Gen.ReferenceIdeal.Read
public import Idealize.ShloMosaic.Lib.Claim

/-!
# The run of the plain program

Its two results are the last two stages of the program, read at its arguments.
-/

@[expose] public section

set_option maxRecDepth 100000

noncomputable section

namespace Cert.Assign.Ref

open Idealize.ShloMosaic Idealize.SL.Sem Cert.ReferenceIdeal Cert.ReferenceIdeal.Read

/-- Every run of the plain program ends with its results at the last two stages and its arguments unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v259)
        = val_main_v259 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_v257)
        = val_main_v257 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1.trans (val_main_v259_eq (F := Ideal) (StableHlo.launchContents m c)),
      (h c).2.1.trans (val_main_v257_eq (F := Ideal) (StableHlo.launchContents m c)), (h c).2.2⟩)
    (Cert.ReferenceIdeal.Value.run (F := Ideal) m g)

end Cert.Assign.Ref

end
-- ==== Proof.lean ====
/-
  The certificate's claims: each program terminates without a fault, leaves its arguments unchanged and every counter at
  zero; and the kernel and the reference give the same two results, read over the extended reals, on masks and labels
  that are allowed.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Equation
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end, its arguments unchanged; it declares no semaphore, so its counters read zero. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The kernel and the reference give the same results from the same arguments. -/
theorem algebraic : Cert.algebraic_KernelIdeal_ReferenceIdeal_pre_labels_and_masks
    (hKernelIdeal := Cert.KernelIdeal.Gen.facts) (hReferenceIdeal := Cert.ReferenceIdeal.Gen.facts)
    (hPre_labels_and_masks := Cert.Assign.pre_facts) := by
  intro m g m' g' hpre hargs
  have hall := fun c => Cert.Assign.allowed_of_pre (h := hpre c)
  refine ⟨fun c => Cert.Assign.kept m c Cert.KernelIdeal.main_v14,
    fun c => Cert.Assign.kept m c Cert.KernelIdeal.main_v12, Cert.Assign.kernel_run m g, ?_⟩
  refine (θ_run Cert.ReferenceIdeal.defs _ _).mono (fun r h c => ?_) (Cert.Assign.Ref.reference_run m' g')
  obtain ⟨h0, h1, h2, h3, h4⟩ := hargs c
  obtain ⟨ha, hb, hc⟩ := h c
  rw [h0, h1, h2, h3, h4] at ha hb
  exact ⟨ha.trans (Cert.Assign.assigned_eq m c (hall c)), hb.trans (Cert.Assign.given_eq m c (hall c)), hc⟩

/-- All the claims; the idealization rewrote nothing. -/
theorem claim : Cert.Claim :=
  ⟨Cert.Kernel.Gen.facts, Cert.KernelIdeal.Gen.facts, Cert.ReferenceIdeal.Gen.facts, Cert.Assign.pre_facts,
    fun m ρ _ => Cert.Kernel.Gen.frame m ρ,
    fun m ρ _ => Cert.KernelIdeal.Gen.frame m ρ,
    fun m ρ _ => Cert.KernelIdeal.Gen.frame m ρ,
    frame_ri,
    fun m ρ _ => frame_ri m ρ trivial,
    trivial, algebraic⟩

end Cert.Proof

end
